-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x4096 : Shape := ⟨3, ![1, 3072, 4096]⟩
abbrev S1x3072x1 : Shape := ⟨3, ![1, 3072, 1]⟩
abbrev S14336x4096 : Shape := ⟨2, ![14336, 4096]⟩
abbrev S14336 : Shape := ⟨1, ![14336]⟩
abbrev S3072x4096 : Shape := ⟨2, ![3072, 4096]⟩
abbrev S3072x1 : Shape := ⟨2, ![3072, 1]⟩
abbrev S1x14336 : Shape := ⟨2, ![1, 14336]⟩
abbrev S3072x14336 : Shape := ⟨2, ![3072, 14336]⟩
abbrev S512x4096 : Shape := ⟨2, ![512, 4096]⟩
abbrev S512x1 : Shape := ⟨2, ![512, 1]⟩
abbrev S1024x4096 : Shape := ⟨2, ![1024, 4096]⟩
abbrev S1x1024 : Shape := ⟨2, ![1, 1024]⟩
abbrev S512x1024 : Shape := ⟨2, ![512, 1024]⟩
abbrev S14x512x1024 : Shape := ⟨3, ![14, 512, 1024]⟩
abbrev S512x128 : Shape := ⟨2, ![512, 128]⟩
abbrev S512 : Shape := ⟨1, ![512]⟩
abbrev S1x512x128 : Shape := ⟨3, ![1, 512, 128]⟩
abbrev S1x128 : Shape := ⟨2, ![1, 128]⟩

abbrev nBuf : Space → Nat
  | .hbm => 11
  | .vmem => 18
  | .smem => 0
  | _ => 0

abbrev bufTy : (tb : Table) → Fin (tcTables nBuf tb) → BufTy
  | .hbm, ⟨0, _⟩ => ⟨S1x3072x4096, .fp8e4m3⟩
  | .hbm, ⟨1, _⟩ => ⟨S1x3072x1, .f32⟩
  | .hbm, ⟨2, _⟩ => ⟨S14336x4096, .fp8e4m3⟩
  | .hbm, ⟨3, _⟩ => ⟨S14336, .f32⟩
  | .hbm, ⟨4, _⟩ => ⟨S14336, .bf16⟩
  | .hbm, ⟨5, _⟩ => ⟨S3072x4096, .fp8e4m3⟩
  | .hbm, ⟨6, _⟩ => ⟨S3072x1, .f32⟩
  | .hbm, ⟨7, _⟩ => ⟨S1x14336, .f32⟩
  | .hbm, ⟨8, _⟩ => ⟨S1x14336, .bf16⟩
  | .hbm, ⟨9, _⟩ => ⟨S3072x14336, .fp8e4m3⟩
  | .hbm, ⟨10, _⟩ => ⟨S3072x1, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .bf16⟩
  | .local _ .vmem, ⟨9, _⟩ => ⟨S1x1024, .bf16⟩
  | .local _ .vmem, ⟨10, _⟩ => ⟨S512x1024, .fp8e4m3⟩
  | .local _ .vmem, ⟨11, _⟩ => ⟨S512x1024, .fp8e4m3⟩
  | .local _ .vmem, ⟨12, _⟩ => ⟨S512x1, .f32⟩
  | .local _ .vmem, ⟨13, _⟩ => ⟨S512x1, .f32⟩
  | .local _ .vmem, ⟨14, _⟩ => ⟨S14x512x1024, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S1x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 14], ![false, false]⟩

def k0_cond2 (i : grid0.Coords) : BitVec 1 :=
  let arg0 : BitVec 32 := BitVec.ofNat 32 (i 0).val
  let c6_i32 : BitVec 32 := 6#32
  let v3 : BitVec 1 := Scalar.cmpi .slt arg0 c6_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off2 (i : grid0.Coords) : Fin 3 → Nat :=
  let arg1 : BitVec 32 := BitVec.ofNat 32 (i 1).val
  let v20 : Index := Scalar.indexCast arg1
  let c0_10 : Index := 0#32
  let c128 : Index := 128#32
  ![v20.toNat, 0, 128]
def k0_off3 (i : grid0.Coords) : Fin 3 → Nat :=
  let arg1 : BitVec 32 := BitVec.ofNat 32 (i 1).val
  let v31 : Index := Scalar.indexCast arg1
  let c0_17 : Index := 0#32
  let c256 : Index := 256#32
  ![v31.toNat, 0, 256]
def k0_off4 (i : grid0.Coords) : Fin 3 → Nat :=
  let arg1 : BitVec 32 := BitVec.ofNat 32 (i 1).val
  let v42 : Index := Scalar.indexCast arg1
  let c0_24 : Index := 0#32
  let c384 : Index := 384#32
  ![v42.toNat, 0, 384]
def k0_off5 (i : grid0.Coords) : Fin 3 → Nat :=
  let arg1 : BitVec 32 := BitVec.ofNat 32 (i 1).val
  let v53 : Index := Scalar.indexCast arg1
  let c0_31 : Index := 0#32
  let c512 : Index := 512#32
  ![v53.toNat, 0, 512]
def k0_off6 (i : grid0.Coords) : Fin 3 → Nat :=
  let arg1 : BitVec 32 := BitVec.ofNat 32 (i 1).val
  let v64 : Index := Scalar.indexCast arg1
  let c0_38 : Index := 0#32
  let c640 : Index := 640#32
  ![v64.toNat, 0, 640]
def k0_off7 (i : grid0.Coords) : Fin 3 → Nat :=
  let arg1 : BitVec 32 := BitVec.ofNat 32 (i 1).val
  let v75 : Index := Scalar.indexCast arg1
  let c0_45 : Index := 0#32
  let c768 : Index := 768#32
  ![v75.toNat, 0, 768]
def k0_off8 (i : grid0.Coords) : Fin 3 → Nat :=
  let arg1 : BitVec 32 := BitVec.ofNat 32 (i 1).val
  let v86 : Index := Scalar.indexCast arg1
  let c0_52 : Index := 0#32
  let c896 : Index := 896#32
  ![v86.toNat, 0, 896]
def k0_cond3 (i : grid0.Coords) : BitVec 1 :=
  let arg0 : BitVec 32 := BitVec.ofNat 32 (i 0).val
  let c6_i32_2 : BitVec 32 := 6#32
  let v6 : BitVec 1 := Scalar.cmpi .eq arg0 c6_i32_2
  let v7 : BitVec 32 := Scalar.extui v6
  let c0_i32_3 : BitVec 32 := 0#32
  let v8 : BitVec 1 := Scalar.cmpi .ne v7 c0_i32_3
  v8

def k0_off9 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off10 (i : grid0.Coords) : Fin 3 → Nat :=
  let arg1 : BitVec 32 := BitVec.ofNat 32 (i 1).val
  let v20 : Index := Scalar.indexCast arg1
  let c0_10 : Index := 0#32
  let c128 : Index := 128#32
  ![v20.toNat, 0, 128]
def k0_off11 (i : grid0.Coords) : Fin 3 → Nat :=
  let arg1 : BitVec 32 := BitVec.ofNat 32 (i 1).val
  let v31 : Index := Scalar.indexCast arg1
  let c0_17 : Index := 0#32
  let c256 : Index := 256#32
  ![v31.toNat, 0, 256]
def k0_off12 (i : grid0.Coords) : Fin 3 → Nat :=
  let arg1 : BitVec 32 := BitVec.ofNat 32 (i 1).val
  let v42 : Index := Scalar.indexCast arg1
  let c0_24 : Index := 0#32
  let c384 : Index := 384#32
  ![v42.toNat, 0, 384]
def k0_off13 (i : grid0.Coords) : Fin 3 → Nat :=
  let arg1 : BitVec 32 := BitVec.ofNat 32 (i 1).val
  let v53 : Index := Scalar.indexCast arg1
  let c0_31 : Index := 0#32
  let c512 : Index := 512#32
  ![v53.toNat, 0, 512]
def k0_off14 (i : grid0.Coords) : Fin 3 → Nat :=
  let arg1 : BitVec 32 := BitVec.ofNat 32 (i 1).val
  let v64 : Index := Scalar.indexCast arg1
  let c0_38 : Index := 0#32
  let c640 : Index := 640#32
  ![v64.toNat, 0, 640]
def k0_off15 (i : grid0.Coords) : Fin 3 → Nat :=
  let arg1 : BitVec 32 := BitVec.ofNat 32 (i 1).val
  let v75 : Index := Scalar.indexCast arg1
  let c0_45 : Index := 0#32
  let c768 : Index := 768#32
  ![v75.toNat, 0, 768]
def k0_off16 (i : grid0.Coords) : Fin 3 → Nat :=
  let arg1 : BitVec 32 := BitVec.ofNat 32 (i 1).val
  let v86 : Index := Scalar.indexCast arg1
  let c0_52 : Index := 0#32
  let c896 : Index := 896#32
  ![v86.toNat, 0, 896]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c13_i32 : BitVec 32 := 13#32
  let v1 : BitVec 32 := Scalar.select v0 arg1 c13_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S1x3072x4096 : Shape := ⟨3, ![1, 3072, 4096]⟩
abbrev S1x3072x1 : Shape := ⟨3, ![1, 3072, 1]⟩
abbrev S14336x4096 : Shape := ⟨2, ![14336, 4096]⟩
abbrev S14336 : Shape := ⟨1, ![14336]⟩
abbrev S3072x4096 : Shape := ⟨2, ![3072, 4096]⟩
abbrev S3072x1 : Shape := ⟨2, ![3072, 1]⟩
abbrev S1x14336 : Shape := ⟨2, ![1, 14336]⟩
abbrev S3072x14336 : Shape := ⟨2, ![3072, 14336]⟩
abbrev S3072 : Shape := ⟨1, ![3072]⟩

abbrev nBuf : Space → Nat
  | .hbm => 11
  | .vmem => 7
  | .smem => 0
  | _ => 0

abbrev bufTy : (tb : Table) → Fin (tcTables nBuf tb) → BufTy
  | .hbm, ⟨0, _⟩ => ⟨S1x3072x4096, .fp8e4m3⟩
  | .hbm, ⟨1, _⟩ => ⟨S1x3072x1, .f32⟩
  | .hbm, ⟨2, _⟩ => ⟨S14336x4096, .fp8e4m3⟩
  | .hbm, ⟨3, _⟩ => ⟨S14336, .f32⟩
  | .hbm, ⟨4, _⟩ => ⟨S14336, .bf16⟩
  | .hbm, ⟨5, _⟩ => ⟨S3072x4096, .fp8e4m3⟩
  | .hbm, ⟨6, _⟩ => ⟨S3072x1, .f32⟩
  | .hbm, ⟨7, _⟩ => ⟨S1x14336, .f32⟩
  | .hbm, ⟨8, _⟩ => ⟨S1x14336, .bf16⟩
  | .hbm, ⟨9, _⟩ => ⟨S3072x14336, .fp8e4m3⟩
  | .hbm, ⟨10, _⟩ => ⟨S3072x1, .f32⟩
  | .local _ .vmem, ⟨0, _⟩ => ⟨S3072x4096, .fp8e4m3⟩
  | .local _ .vmem, ⟨1, _⟩ => ⟨S3072x1, .f32⟩
  | .local _ .vmem, ⟨2, _⟩ => ⟨S14336x4096, .fp8e4m3⟩
  | .local _ .vmem, ⟨3, _⟩ => ⟨S1x14336, .f32⟩
  | .local _ .vmem, ⟨4, _⟩ => ⟨S1x14336, .bf16⟩
  | .local _ .vmem, ⟨5, _⟩ => ⟨S3072x14336, .fp8e4m3⟩
  | .local _ .vmem, ⟨6, _⟩ => ⟨S3072x1, .f32⟩
  | _, _ => ⟨S1x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln_2" => some ((Real.log 2 : ℝ) : EReal)
  | "sqrt_half" => some (((Real.sqrt 2)⁻¹ : ℝ) : EReal)
  | _ => none

abbrev grid0 : Pipeline.Grid := .none

abbrev stage0_0 : Fin 1 → Memref sig .tc .vmem S3072x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBodyVals.lean ====
/- What one run of the kernel body computes, as functions of vectors: the state it carries from one grid point to the
   next is the un-gelu'd tile row `T` (fourteen tiles of 512 x 1024), the activation scales spread over the lanes `xl`,
   the running maximum per lane `mx` and the multiplier per lane `mu`. -/
module

public import proofs.«01_k».proof.Proof.Gen.Kernel.Skeleton
public import Idealize.ShloMosaic.Lib.VecWindow
public import Idealize.ShloMosaic.Lib.Tactic.Stretches

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The place of the 128 columns from `k` on of tile `j` within the fourteen tiles. -/
abbrev slabOff (j : Fin 14) (k : ℕ) : Fin 3 → ℕ := ![j.val, 0, k]

theorem slabOff_inb (j : Fin 14) (k : ℕ) (hk : k + 128 ≤ 1024) :
    ∀ a, slabOff j k a + S1x512x128.size a ≤ S14x512x1024.size a := fun a => by
  have := j.isLt
  match a with
  | ⟨0, _⟩ => show j.val + 1 ≤ 14; omega
  | ⟨1, _⟩ => show 0 + 512 ≤ 512; omega
  | ⟨2, _⟩ => show k + 128 ≤ 1024; omega

/-- The 128 columns from `k` on of tile `j`. -/
def slab (T : Vec F S14x512x1024 .f32) (j : Fin 14) (k : ℕ) (hk : k + 128 ≤ 1024 := by omega) : Vec F S1x512x128 .f32 :=
  VecWindow.window T (slabOff j k) S1x512x128.size (slabOff_inb j k hk)

/-- `T` with `p` over the 128 columns from `k` on of tile `j`. -/
def putSlab (T : Vec F S14x512x1024 .f32) (j : Fin 14) (k : ℕ) (p : Vec F S1x512x128 .f32) : Vec F S14x512x1024 .f32 :=
  VecWindow.put T (slabOff j k) S1x512x128.size p

/-- A block of codes `q` with `p` over its 128 columns from `k` on. -/
def putCols (q : Vec F S512x1024 .fp8e4m3) (k : ℕ) (p : Vec F S512x128 .fp8e4m3) : Vec F S512x1024 .fp8e4m3 :=
  VecWindow.put q ![0, k] S512x128.size p

/-- The multiplier per lane, from the maximum per lane of the finished row of tiles. -/
def mulOf (mx : Vec F S512x128 .f32) : Vec F S512x128 .f32 :=
  k0_pay2 (k0_pay16 (k0_pay11 mx) (k0_pay12 mx) (k0_pay13 mx) k0_pay14) (k0_pay17 (k0_pay11 mx) (k0_pay12 mx) (k0_pay13 mx) k0_pay14)

/-- The scale of each row, from the maximum per lane of the finished row of tiles. -/
def scaleOf (mx : Vec F S512x128 .f32) : Vec F S512x1 .f32 :=
  k0_pay3 (k0_pay16 (k0_pay11 mx) (k0_pay12 mx) (k0_pay13 mx) k0_pay14) (k0_pay17 (k0_pay11 mx) (k0_pay12 mx) (k0_pay13 mx) k0_pay14)

/-- The codes of tile `j`, from the finished tiles and the multiplier. -/
def codesOf (T : Vec F S14x512x1024 .f32) (mu : Vec F S512x128 .f32) (j : Fin 14) (q : Vec F S512x1024 .fp8e4m3) :
    Vec F S512x1024 .fp8e4m3 :=
  putCols (putCols (putCols (putCols (putCols (putCols (putCols (putCols q 0 (k0_pay18 (slab T j 0) mu)) 128 (k0_pay19 (slab T j 128) mu)) 256 (k0_pay20 (slab T j 256) mu)) 384 (k0_pay21 (slab T j 384) mu)) 512 (k0_pay22 (slab T j 512) mu)) 640 (k0_pay23 (slab T j 640) mu)) 768 (k0_pay24 (slab T j 768) mu)) 896 (k0_pay25 (slab T j 896) mu)

/-- The tiles after tile `j` is computed anew from the blocks of the activations, the weights, the weight scales and the bias. -/
def tilesOf (x : Vec F S512x4096 .fp8e4m3) (xl : Vec F S512x128 .f32) (w : Vec F S1024x4096 .fp8e4m3) (ws : Vec F S1x1024 .f32) (b : Vec F S1x1024 .bf16) (j : Fin 14) (T : Vec F S14x512x1024 .f32) :
    Vec F S14x512x1024 .f32 :=
  let v100 := k0_pay26 x w
  let v104 := k0_pay27 ws
  let v106 := k0_pay28 b
  let v109 := k0_pay29 v106
  putSlab (putSlab (putSlab (putSlab (putSlab (putSlab (putSlab (putSlab T j 0 (k0_pay31 v100 v104 v106 xl)) j 128 (k0_pay33 v100 v104 v106 xl)) j 256 (k0_pay37 v104 v109 (k0_pay35 v100) xl)) j 384 (k0_pay39 v100 v104 v109 xl)) j 512 (k0_pay44 (k0_pay41 v100 v104 v109 xl) (k0_pay42 v100 v104 v109 xl) (Scalar.ofBits .f32 0x3F800000#32))) j 640 (k0_pay46 v100 v104 v109 xl)) j 768 (k0_pay49 v100 v104 v109 xl)) j 896 (k0_pay7 v100 v104 v109 xl)

/-- The maximum per lane after the same tile is taken into it. -/
def maxOf (x : Vec F S512x4096 .fp8e4m3) (xl : Vec F S512x128 .f32) (w : Vec F S1024x4096 .fp8e4m3) (ws : Vec F S1x1024 .f32) (b : Vec F S1x1024 .bf16) (mx : Vec F S512x128 .f32) : Vec F S512x128 .f32 :=
  let v100 := k0_pay26 x w
  let v104 := k0_pay27 ws
  let v106 := k0_pay28 b
  let v109 := k0_pay29 v106
  let v186 := k0_pay40 v100 v104 v109 (k0_pay34 v100 v104 v106 mx xl xl) (k0_pay35 v100) xl xl
  let v224 := k0_pay47 v100 v104 v109 v186 (k0_pay41 v100 v104 v109 xl) (k0_pay42 v100 v104 v109 xl) (Scalar.ofBits .f32 0x3F800000#32) xl
  k0_pay8 v100 v104 v109 v224 (k0_pay48 v100 v104 v109 xl) xl

end Cert.Kernel.Body

end
-- ==== Proof.KernelBodyRun.lean ====
/- The kernel body run at one grid point, in each of its four cases: what every buffer holds afterwards. -/
module

public import proofs.«01_k».proof.Proof.Gen.Kernel.Frame
public import proofs.«01_k».proof.Proof.Gen.Kernel.Skeleton
public import proofs.«01_k».proof.Proof.KernelBodyVals
public import Idealize.ShloMosaic.Lib.VecWindow
public import Idealize.ShloMosaic.Lib.Tactic.Stretches

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets the body computes for its accesses to the tiles. -/
theorem off_eq (i : grid0.Coords) : k0_off1 i = slabOff (i 1) 0 ∧ k0_off2 i = slabOff (i 1) 128 ∧ k0_off3 i = slabOff (i 1) 256 ∧ k0_off4 i = slabOff (i 1) 384 ∧ k0_off5 i = slabOff (i 1) 512 ∧ k0_off6 i = slabOff (i 1) 640 ∧ k0_off7 i = slabOff (i 1) 768 ∧ k0_off8 i = slabOff (i 1) 896 ∧ k0_off9 i = slabOff (i 1) 0 ∧ k0_off10 i = slabOff (i 1) 128 ∧ k0_off11 i = slabOff (i 1) 256 ∧ k0_off12 i = slabOff (i 1) 384 ∧ k0_off13 i = slabOff (i 1) 512 ∧ k0_off14 i = slabOff (i 1) 640 ∧ k0_off15 i = slabOff (i 1) 768 ∧ k0_off16 i = slabOff (i 1) 896 := by
  have h : (Scalar.indexCast (BitVec.ofNat 32 (i 1).val) : BitVec 32).toNat = (i 1).val := by
    have hi : (i 1).val < 14 := (i 1).isLt
    show (BitVec.ofNat 32 (i 1).val).toNat = _
    rw [BitVec.toNat_ofNat]; omega
  refine ⟨?_, ?_, ?_, ?_, ?_, ?_, ?_, ?_, ?_, ?_, ?_, ?_, ?_, ?_, ?_, ?_⟩ <;> (funext a; fin_cases a <;> first | rfl | exact h)

theorem ld1 (M : Memref sig .tc .vmem S14x512x1024 .f32) (i : grid0.Coords) (f : M.view.ty.Contents (Elt F)) (inb : ∀ a, k0_off1 i a + S1x512x128.size a ≤ S14x512x1024.size a) :
    M.view.readAt (Elt F) (Rect.unit (s := S14x512x1024) (k0_off1 i) S1x512x128.size inb).toLoadRect f = slab (M.view.read (Elt F) f) (i 1) 0 :=
  View.readAt_unit M.view f inb (off_eq i).1 (slabOff_inb _ _ (by omega))
theorem ld2 (M : Memref sig .tc .vmem S14x512x1024 .f32) (i : grid0.Coords) (f : M.view.ty.Contents (Elt F)) (inb : ∀ a, k0_off2 i a + S1x512x128.size a ≤ S14x512x1024.size a) :
    M.view.readAt (Elt F) (Rect.unit (s := S14x512x1024) (k0_off2 i) S1x512x128.size inb).toLoadRect f = slab (M.view.read (Elt F) f) (i 1) 128 :=
  View.readAt_unit M.view f inb (off_eq i).2.1 (slabOff_inb _ _ (by omega))
theorem ld3 (M : Memref sig .tc .vmem S14x512x1024 .f32) (i : grid0.Coords) (f : M.view.ty.Contents (Elt F)) (inb : ∀ a, k0_off3 i a + S1x512x128.size a ≤ S14x512x1024.size a) :
    M.view.readAt (Elt F) (Rect.unit (s := S14x512x1024) (k0_off3 i) S1x512x128.size inb).toLoadRect f = slab (M.view.read (Elt F) f) (i 1) 256 :=
  View.readAt_unit M.view f inb (off_eq i).2.2.1 (slabOff_inb _ _ (by omega))
theorem ld4 (M : Memref sig .tc .vmem S14x512x1024 .f32) (i : grid0.Coords) (f : M.view.ty.Contents (Elt F)) (inb : ∀ a, k0_off4 i a + S1x512x128.size a ≤ S14x512x1024.size a) :
    M.view.readAt (Elt F) (Rect.unit (s := S14x512x1024) (k0_off4 i) S1x512x128.size inb).toLoadRect f = slab (M.view.read (Elt F) f) (i 1) 384 :=
  View.readAt_unit M.view f inb (off_eq i).2.2.2.1 (slabOff_inb _ _ (by omega))
theorem ld5 (M : Memref sig .tc .vmem S14x512x1024 .f32) (i : grid0.Coords) (f : M.view.ty.Contents (Elt F)) (inb : ∀ a, k0_off5 i a + S1x512x128.size a ≤ S14x512x1024.size a) :
    M.view.readAt (Elt F) (Rect.unit (s := S14x512x1024) (k0_off5 i) S1x512x128.size inb).toLoadRect f = slab (M.view.read (Elt F) f) (i 1) 512 :=
  View.readAt_unit M.view f inb (off_eq i).2.2.2.2.1 (slabOff_inb _ _ (by omega))
theorem ld6 (M : Memref sig .tc .vmem S14x512x1024 .f32) (i : grid0.Coords) (f : M.view.ty.Contents (Elt F)) (inb : ∀ a, k0_off6 i a + S1x512x128.size a ≤ S14x512x1024.size a) :
    M.view.readAt (Elt F) (Rect.unit (s := S14x512x1024) (k0_off6 i) S1x512x128.size inb).toLoadRect f = slab (M.view.read (Elt F) f) (i 1) 640 :=
  View.readAt_unit M.view f inb (off_eq i).2.2.2.2.2.1 (slabOff_inb _ _ (by omega))
theorem ld7 (M : Memref sig .tc .vmem S14x512x1024 .f32) (i : grid0.Coords) (f : M.view.ty.Contents (Elt F)) (inb : ∀ a, k0_off7 i a + S1x512x128.size a ≤ S14x512x1024.size a) :
    M.view.readAt (Elt F) (Rect.unit (s := S14x512x1024) (k0_off7 i) S1x512x128.size inb).toLoadRect f = slab (M.view.read (Elt F) f) (i 1) 768 :=
  View.readAt_unit M.view f inb (off_eq i).2.2.2.2.2.2.1 (slabOff_inb _ _ (by omega))
theorem ld8 (M : Memref sig .tc .vmem S14x512x1024 .f32) (i : grid0.Coords) (f : M.view.ty.Contents (Elt F)) (inb : ∀ a, k0_off8 i a + S1x512x128.size a ≤ S14x512x1024.size a) :
    M.view.readAt (Elt F) (Rect.unit (s := S14x512x1024) (k0_off8 i) S1x512x128.size inb).toLoadRect f = slab (M.view.read (Elt F) f) (i 1) 896 :=
  View.readAt_unit M.view f inb (off_eq i).2.2.2.2.2.2.2.1 (slabOff_inb _ _ (by omega))
theorem ld9 (M : Memref sig .tc .vmem S14x512x1024 .f32) (i : grid0.Coords) (f : M.view.ty.Contents (Elt F)) (inb : ∀ a, k0_off9 i a + S1x512x128.size a ≤ S14x512x1024.size a) :
    M.view.readAt (Elt F) (Rect.unit (s := S14x512x1024) (k0_off9 i) S1x512x128.size inb).toLoadRect f = slab (M.view.read (Elt F) f) (i 1) 0 :=
  View.readAt_unit M.view f inb (off_eq i).2.2.2.2.2.2.2.2.1 (slabOff_inb _ _ (by omega))
theorem ld10 (M : Memref sig .tc .vmem S14x512x1024 .f32) (i : grid0.Coords) (f : M.view.ty.Contents (Elt F)) (inb : ∀ a, k0_off10 i a + S1x512x128.size a ≤ S14x512x1024.size a) :
    M.view.readAt (Elt F) (Rect.unit (s := S14x512x1024) (k0_off10 i) S1x512x128.size inb).toLoadRect f = slab (M.view.read (Elt F) f) (i 1) 128 :=
  View.readAt_unit M.view f inb (off_eq i).2.2.2.2.2.2.2.2.2.1 (slabOff_inb _ _ (by omega))
theorem ld11 (M : Memref sig .tc .vmem S14x512x1024 .f32) (i : grid0.Coords) (f : M.view.ty.Contents (Elt F)) (inb : ∀ a, k0_off11 i a + S1x512x128.size a ≤ S14x512x1024.size a) :
    M.view.readAt (Elt F) (Rect.unit (s := S14x512x1024) (k0_off11 i) S1x512x128.size inb).toLoadRect f = slab (M.view.read (Elt F) f) (i 1) 256 :=
  View.readAt_unit M.view f inb (off_eq i).2.2.2.2.2.2.2.2.2.2.1 (slabOff_inb _ _ (by omega))
theorem ld12 (M : Memref sig .tc .vmem S14x512x1024 .f32) (i : grid0.Coords) (f : M.view.ty.Contents (Elt F)) (inb : ∀ a, k0_off12 i a + S1x512x128.size a ≤ S14x512x1024.size a) :
    M.view.readAt (Elt F) (Rect.unit (s := S14x512x1024) (k0_off12 i) S1x512x128.size inb).toLoadRect f = slab (M.view.read (Elt F) f) (i 1) 384 :=
  View.readAt_unit M.view f inb (off_eq i).2.2.2.2.2.2.2.2.2.2.2.1 (slabOff_inb _ _ (by omega))
theorem ld13 (M : Memref sig .tc .vmem S14x512x1024 .f32) (i : grid0.Coords) (f : M.view.ty.Contents (Elt F)) (inb : ∀ a, k0_off13 i a + S1x512x128.size a ≤ S14x512x1024.size a) :
    M.view.readAt (Elt F) (Rect.unit (s := S14x512x1024) (k0_off13 i) S1x512x128.size inb).toLoadRect f = slab (M.view.read (Elt F) f) (i 1) 512 :=
  View.readAt_unit M.view f inb (off_eq i).2.2.2.2.2.2.2.2.2.2.2.2.1 (slabOff_inb _ _ (by omega))
theorem ld14 (M : Memref sig .tc .vmem S14x512x1024 .f32) (i : grid0.Coords) (f : M.view.ty.Contents (Elt F)) (inb : ∀ a, k0_off14 i a + S1x512x128.size a ≤ S14x512x1024.size a) :
    M.view.readAt (Elt F) (Rect.unit (s := S14x512x1024) (k0_off14 i) S1x512x128.size inb).toLoadRect f = slab (M.view.read (Elt F) f) (i 1) 640 :=
  View.readAt_unit M.view f inb (off_eq i).2.2.2.2.2.2.2.2.2.2.2.2.2.1 (slabOff_inb _ _ (by omega))
theorem ld15 (M : Memref sig .tc .vmem S14x512x1024 .f32) (i : grid0.Coords) (f : M.view.ty.Contents (Elt F)) (inb : ∀ a, k0_off15 i a + S1x512x128.size a ≤ S14x512x1024.size a) :
    M.view.readAt (Elt F) (Rect.unit (s := S14x512x1024) (k0_off15 i) S1x512x128.size inb).toLoadRect f = slab (M.view.read (Elt F) f) (i 1) 768 :=
  View.readAt_unit M.view f inb (off_eq i).2.2.2.2.2.2.2.2.2.2.2.2.2.2.1 (slabOff_inb _ _ (by omega))
theorem ld16 (M : Memref sig .tc .vmem S14x512x1024 .f32) (i : grid0.Coords) (f : M.view.ty.Contents (Elt F)) (inb : ∀ a, k0_off16 i a + S1x512x128.size a ≤ S14x512x1024.size a) :
    M.view.readAt (Elt F) (Rect.unit (s := S14x512x1024) (k0_off16 i) S1x512x128.size inb).toLoadRect f = slab (M.view.read (Elt F) f) (i 1) 896 :=
  View.readAt_unit M.view f inb (off_eq i).2.2.2.2.2.2.2.2.2.2.2.2.2.2.2 (slabOff_inb _ _ (by omega))
theorem st1 (M : Memref sig .tc .vmem S14x512x1024 .f32) (i : grid0.Coords) (f : M.view.ty.Contents (Elt F)) (inb : ∀ a, k0_off1 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off1 i) S1x512x128.size inb, p⟩ :: L)) = putSlab (M.view.read (Elt F) (M.view.writes (Elt F) f L)) (i 1) 0 p :=
  View.read_writes_cons_put M.view f inb p L (off_eq i).1
theorem st2 (M : Memref sig .tc .vmem S14x512x1024 .f32) (i : grid0.Coords) (f : M.view.ty.Contents (Elt F)) (inb : ∀ a, k0_off2 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off2 i) S1x512x128.size inb, p⟩ :: L)) = putSlab (M.view.read (Elt F) (M.view.writes (Elt F) f L)) (i 1) 128 p :=
  View.read_writes_cons_put M.view f inb p L (off_eq i).2.1
theorem st3 (M : Memref sig .tc .vmem S14x512x1024 .f32) (i : grid0.Coords) (f : M.view.ty.Contents (Elt F)) (inb : ∀ a, k0_off3 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off3 i) S1x512x128.size inb, p⟩ :: L)) = putSlab (M.view.read (Elt F) (M.view.writes (Elt F) f L)) (i 1) 256 p :=
  View.read_writes_cons_put M.view f inb p L (off_eq i).2.2.1
theorem st4 (M : Memref sig .tc .vmem S14x512x1024 .f32) (i : grid0.Coords) (f : M.view.ty.Contents (Elt F)) (inb : ∀ a, k0_off4 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off4 i) S1x512x128.size inb, p⟩ :: L)) = putSlab (M.view.read (Elt F) (M.view.writes (Elt F) f L)) (i 1) 384 p :=
  View.read_writes_cons_put M.view f inb p L (off_eq i).2.2.2.1
theorem st5 (M : Memref sig .tc .vmem S14x512x1024 .f32) (i : grid0.Coords) (f : M.view.ty.Contents (Elt F)) (inb : ∀ a, k0_off5 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off5 i) S1x512x128.size inb, p⟩ :: L)) = putSlab (M.view.read (Elt F) (M.view.writes (Elt F) f L)) (i 1) 512 p :=
  View.read_writes_cons_put M.view f inb p L (off_eq i).2.2.2.2.1
theorem st6 (M : Memref sig .tc .vmem S14x512x1024 .f32) (i : grid0.Coords) (f : M.view.ty.Contents (Elt F)) (inb : ∀ a, k0_off6 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off6 i) S1x512x128.size inb, p⟩ :: L)) = putSlab (M.view.read (Elt F) (M.view.writes (Elt F) f L)) (i 1) 640 p :=
  View.read_writes_cons_put M.view f inb p L (off_eq i).2.2.2.2.2.1
theorem st7 (M : Memref sig .tc .vmem S14x512x1024 .f32) (i : grid0.Coords) (f : M.view.ty.Contents (Elt F)) (inb : ∀ a, k0_off7 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off7 i) S1x512x128.size inb, p⟩ :: L)) = putSlab (M.view.read (Elt F) (M.view.writes (Elt F) f L)) (i 1) 768 p :=
  View.read_writes_cons_put M.view f inb p L (off_eq i).2.2.2.2.2.2.1
theorem st8 (M : Memref sig .tc .vmem S14x512x1024 .f32) (i : grid0.Coords) (f : M.view.ty.Contents (Elt F)) (inb : ∀ a, k0_off8 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off8 i) S1x512x128.size inb, p⟩ :: L)) = putSlab (M.view.read (Elt F) (M.view.writes (Elt F) f L)) (i 1) 896 p :=
  View.read_writes_cons_put M.view f inb p L (off_eq i).2.2.2.2.2.2.2.1
theorem ldl1 (M : Memref sig .tc .vmem S14x512x1024 .f32) (i : grid0.Coords) (f : M.view.ty.Contents (Elt F)) (inb : ∀ a, k0_off1 i a + (![1, 512, 128] : Fin 3 → ℕ) a ≤ S14x512x1024.size a) :
    M.view.readAt (Elt F) (Rect.unit (s := S14x512x1024) (k0_off1 i) ![1, 512, 128] inb).toLoadRect f = slab (M.view.read (Elt F) f) (i 1) 0 :=
  ld1 M i f inb
theorem ldl2 (M : Memref sig .tc .vmem S14x512x1024 .f32) (i : grid0.Coords) (f : M.view.ty.Contents (Elt F)) (inb : ∀ a, k0_off2 i a + (![1, 512, 128] : Fin 3 → ℕ) a ≤ S14x512x1024.size a) :
    M.view.readAt (Elt F) (Rect.unit (s := S14x512x1024) (k0_off2 i) ![1, 512, 128] inb).toLoadRect f = slab (M.view.read (Elt F) f) (i 1) 128 :=
  ld2 M i f inb
theorem ldl3 (M : Memref sig .tc .vmem S14x512x1024 .f32) (i : grid0.Coords) (f : M.view.ty.Contents (Elt F)) (inb : ∀ a, k0_off3 i a + (![1, 512, 128] : Fin 3 → ℕ) a ≤ S14x512x1024.size a) :
    M.view.readAt (Elt F) (Rect.unit (s := S14x512x1024) (k0_off3 i) ![1, 512, 128] inb).toLoadRect f = slab (M.view.read (Elt F) f) (i 1) 256 :=
  ld3 M i f inb
theorem ldl4 (M : Memref sig .tc .vmem S14x512x1024 .f32) (i : grid0.Coords) (f : M.view.ty.Contents (Elt F)) (inb : ∀ a, k0_off4 i a + (![1, 512, 128] : Fin 3 → ℕ) a ≤ S14x512x1024.size a) :
    M.view.readAt (Elt F) (Rect.unit (s := S14x512x1024) (k0_off4 i) ![1, 512, 128] inb).toLoadRect f = slab (M.view.read (Elt F) f) (i 1) 384 :=
  ld4 M i f inb
theorem ldl5 (M : Memref sig .tc .vmem S14x512x1024 .f32) (i : grid0.Coords) (f : M.view.ty.Contents (Elt F)) (inb : ∀ a, k0_off5 i a + (![1, 512, 128] : Fin 3 → ℕ) a ≤ S14x512x1024.size a) :
    M.view.readAt (Elt F) (Rect.unit (s := S14x512x1024) (k0_off5 i) ![1, 512, 128] inb).toLoadRect f = slab (M.view.read (Elt F) f) (i 1) 512 :=
  ld5 M i f inb
theorem ldl6 (M : Memref sig .tc .vmem S14x512x1024 .f32) (i : grid0.Coords) (f : M.view.ty.Contents (Elt F)) (inb : ∀ a, k0_off6 i a + (![1, 512, 128] : Fin 3 → ℕ) a ≤ S14x512x1024.size a) :
    M.view.readAt (Elt F) (Rect.unit (s := S14x512x1024) (k0_off6 i) ![1, 512, 128] inb).toLoadRect f = slab (M.view.read (Elt F) f) (i 1) 640 :=
  ld6 M i f inb
theorem ldl7 (M : Memref sig .tc .vmem S14x512x1024 .f32) (i : grid0.Coords) (f : M.view.ty.Contents (Elt F)) (inb : ∀ a, k0_off7 i a + (![1, 512, 128] : Fin 3 → ℕ) a ≤ S14x512x1024.size a) :
    M.view.readAt (Elt F) (Rect.unit (s := S14x512x1024) (k0_off7 i) ![1, 512, 128] inb).toLoadRect f = slab (M.view.read (Elt F) f) (i 1) 768 :=
  ld7 M i f inb
theorem ldl8 (M : Memref sig .tc .vmem S14x512x1024 .f32) (i : grid0.Coords) (f : M.view.ty.Contents (Elt F)) (inb : ∀ a, k0_off8 i a + (![1, 512, 128] : Fin 3 → ℕ) a ≤ S14x512x1024.size a) :
    M.view.readAt (Elt F) (Rect.unit (s := S14x512x1024) (k0_off8 i) ![1, 512, 128] inb).toLoadRect f = slab (M.view.read (Elt F) f) (i 1) 896 :=
  ld8 M i f inb
theorem ldl9 (M : Memref sig .tc .vmem S14x512x1024 .f32) (i : grid0.Coords) (f : M.view.ty.Contents (Elt F)) (inb : ∀ a, k0_off9 i a + (![1, 512, 128] : Fin 3 → ℕ) a ≤ S14x512x1024.size a) :
    M.view.readAt (Elt F) (Rect.unit (s := S14x512x1024) (k0_off9 i) ![1, 512, 128] inb).toLoadRect f = slab (M.view.read (Elt F) f) (i 1) 0 :=
  ld9 M i f inb
theorem ldl10 (M : Memref sig .tc .vmem S14x512x1024 .f32) (i : grid0.Coords) (f : M.view.ty.Contents (Elt F)) (inb : ∀ a, k0_off10 i a + (![1, 512, 128] : Fin 3 → ℕ) a ≤ S14x512x1024.size a) :
    M.view.readAt (Elt F) (Rect.unit (s := S14x512x1024) (k0_off10 i) ![1, 512, 128] inb).toLoadRect f = slab (M.view.read (Elt F) f) (i 1) 128 :=
  ld10 M i f inb
theorem ldl11 (M : Memref sig .tc .vmem S14x512x1024 .f32) (i : grid0.Coords) (f : M.view.ty.Contents (Elt F)) (inb : ∀ a, k0_off11 i a + (![1, 512, 128] : Fin 3 → ℕ) a ≤ S14x512x1024.size a) :
    M.view.readAt (Elt F) (Rect.unit (s := S14x512x1024) (k0_off11 i) ![1, 512, 128] inb).toLoadRect f = slab (M.view.read (Elt F) f) (i 1) 256 :=
  ld11 M i f inb
theorem ldl12 (M : Memref sig .tc .vmem S14x512x1024 .f32) (i : grid0.Coords) (f : M.view.ty.Contents (Elt F)) (inb : ∀ a, k0_off12 i a + (![1, 512, 128] : Fin 3 → ℕ) a ≤ S14x512x1024.size a) :
    M.view.readAt (Elt F) (Rect.unit (s := S14x512x1024) (k0_off12 i) ![1, 512, 128] inb).toLoadRect f = slab (M.view.read (Elt F) f) (i 1) 384 :=
  ld12 M i f inb
theorem ldl13 (M : Memref sig .tc .vmem S14x512x1024 .f32) (i : grid0.Coords) (f : M.view.ty.Contents (Elt F)) (inb : ∀ a, k0_off13 i a + (![1, 512, 128] : Fin 3 → ℕ) a ≤ S14x512x1024.size a) :
    M.view.readAt (Elt F) (Rect.unit (s := S14x512x1024) (k0_off13 i) ![1, 512, 128] inb).toLoadRect f = slab (M.view.read (Elt F) f) (i 1) 512 :=
  ld13 M i f inb
theorem ldl14 (M : Memref sig .tc .vmem S14x512x1024 .f32) (i : grid0.Coords) (f : M.view.ty.Contents (Elt F)) (inb : ∀ a, k0_off14 i a + (![1, 512, 128] : Fin 3 → ℕ) a ≤ S14x512x1024.size a) :
    M.view.readAt (Elt F) (Rect.unit (s := S14x512x1024) (k0_off14 i) ![1, 512, 128] inb).toLoadRect f = slab (M.view.read (Elt F) f) (i 1) 640 :=
  ld14 M i f inb
theorem ldl15 (M : Memref sig .tc .vmem S14x512x1024 .f32) (i : grid0.Coords) (f : M.view.ty.Contents (Elt F)) (inb : ∀ a, k0_off15 i a + (![1, 512, 128] : Fin 3 → ℕ) a ≤ S14x512x1024.size a) :
    M.view.readAt (Elt F) (Rect.unit (s := S14x512x1024) (k0_off15 i) ![1, 512, 128] inb).toLoadRect f = slab (M.view.read (Elt F) f) (i 1) 768 :=
  ld15 M i f inb
theorem ldl16 (M : Memref sig .tc .vmem S14x512x1024 .f32) (i : grid0.Coords) (f : M.view.ty.Contents (Elt F)) (inb : ∀ a, k0_off16 i a + (![1, 512, 128] : Fin 3 → ℕ) a ≤ S14x512x1024.size a) :
    M.view.readAt (Elt F) (Rect.unit (s := S14x512x1024) (k0_off16 i) ![1, 512, 128] inb).toLoadRect f = slab (M.view.read (Elt F) f) (i 1) 896 :=
  ld16 M i f inb
theorem stl1 (M : Memref sig .tc .vmem S14x512x1024 .f32) (i : grid0.Coords) (f : M.view.ty.Contents (Elt F)) (inb : ∀ a, k0_off1 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off1 i) ![1, 512, 128] inb, p⟩ :: L)) = putSlab (M.view.read (Elt F) (M.view.writes (Elt F) f L)) (i 1) 0 p :=
  st1 M i f inb p L

theorem stl2 (M : Memref sig .tc .vmem S14x512x1024 .f32) (i : grid0.Coords) (f : M.view.ty.Contents (Elt F)) (inb : ∀ a, k0_off2 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off2 i) ![1, 512, 128] inb, p⟩ :: L)) = putSlab (M.view.read (Elt F) (M.view.writes (Elt F) f L)) (i 1) 128 p :=
  st2 M i f inb p L

theorem stl3 (M : Memref sig .tc .vmem S14x512x1024 .f32) (i : grid0.Coords) (f : M.view.ty.Contents (Elt F)) (inb : ∀ a, k0_off3 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off3 i) ![1, 512, 128] inb, p⟩ :: L)) = putSlab (M.view.read (Elt F) (M.view.writes (Elt F) f L)) (i 1) 256 p :=
  st3 M i f inb p L

theorem stl4 (M : Memref sig .tc .vmem S14x512x1024 .f32) (i : grid0.Coords) (f : M.view.ty.Contents (Elt F)) (inb : ∀ a, k0_off4 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off4 i) ![1, 512, 128] inb, p⟩ :: L)) = putSlab (M.view.read (Elt F) (M.view.writes (Elt F) f L)) (i 1) 384 p :=
  st4 M i f inb p L

theorem stl5 (M : Memref sig .tc .vmem S14x512x1024 .f32) (i : grid0.Coords) (f : M.view.ty.Contents (Elt F)) (inb : ∀ a, k0_off5 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off5 i) ![1, 512, 128] inb, p⟩ :: L)) = putSlab (M.view.read (Elt F) (M.view.writes (Elt F) f L)) (i 1) 512 p :=
  st5 M i f inb p L

theorem stl6 (M : Memref sig .tc .vmem S14x512x1024 .f32) (i : grid0.Coords) (f : M.view.ty.Contents (Elt F)) (inb : ∀ a, k0_off6 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off6 i) ![1, 512, 128] inb, p⟩ :: L)) = putSlab (M.view.read (Elt F) (M.view.writes (Elt F) f L)) (i 1) 640 p :=
  st6 M i f inb p L

theorem stl7 (M : Memref sig .tc .vmem S14x512x1024 .f32) (i : grid0.Coords) (f : M.view.ty.Contents (Elt F)) (inb : ∀ a, k0_off7 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off7 i) ![1, 512, 128] inb, p⟩ :: L)) = putSlab (M.view.read (Elt F) (M.view.writes (Elt F) f L)) (i 1) 768 p :=
  st7 M i f inb p L

theorem stl8 (M : Memref sig .tc .vmem S14x512x1024 .f32) (i : grid0.Coords) (f : M.view.ty.Contents (Elt F)) (inb : ∀ a, k0_off8 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off8 i) ![1, 512, 128] inb, p⟩ :: L)) = putSlab (M.view.read (Elt F) (M.view.writes (Elt F) f L)) (i 1) 896 p :=
  st8 M i f inb p L

theorem stColsl (M : Memref sig .tc .vmem S512x1024 .fp8e4m3) (f : M.view.ty.Contents (Elt F)) (k : ℕ) (inb : ∀ a, (![0, k] : Fin 2 → ℕ) a + (![512, 128] : Fin 2 → ℕ) a ≤ S512x1024.size a) (p : Vec F S512x128 .fp8e4m3) (L : List (View.Piece (Elt F) S512x1024 .fp8e4m3)) :
    M.view.read (Elt F) (M.view.writes (Elt F) f (⟨Rect.unit (s := S512x1024) ![0, k] ![512, 128] inb, p⟩ :: L)) = putCols (M.view.read (Elt F) (M.view.writes (Elt F) f L)) k p :=
  View.read_writes_cons_put M.view f inb p L rfl

theorem ldLanes (M : Memref sig .tc .vmem S512x128 .f32) (f : M.view.ty.Contents (Elt F)) (inb : ∀ a, (![0, 0] : Fin 2 → ℕ) a + (![512, 128] : Fin 2 → ℕ) a ≤ S512x128.size a) :
    M.view.readAt (Elt F) (Rect.unit (s := S512x128) ![0, 0] ![512, 128] inb).toLoadRect f = M.view.read (Elt F) f :=
  View.readAt_full M.view f inb

theorem stLanes (M : Memref sig .tc .vmem S512x128 .f32) (f : M.view.ty.Contents (Elt F)) (inb : ∀ a, (![0, 0] : Fin 2 → ℕ) a + (![512, 128] : Fin 2 → ℕ) a ≤ S512x128.size a) (p : Vec F S512x128 .f32) (L : List (View.Piece (Elt F) S512x128 .f32)) :
    M.view.read (Elt F) (M.view.writes (Elt F) f (⟨Rect.unit (s := S512x128) ![0, 0] ![512, 128] inb, p⟩ :: L)) = p :=
  View.read_writes_full M.view f inb p L

theorem ldX (M : Memref sig .tc .vmem S512x4096 .fp8e4m3) (f : M.view.ty.Contents (Elt F)) (inb : ∀ a, (![0, 0] : Fin 2 → ℕ) a + (![512, 4096] : Fin 2 → ℕ) a ≤ S512x4096.size a) :
    M.view.readAt (Elt F) (Rect.unit (s := S512x4096) ![0, 0] ![512, 4096] inb).toLoadRect f = M.view.read (Elt F) f :=
  View.readAt_full M.view f inb

theorem ldXs (M : Memref sig .tc .vmem S512x1 .f32) (f : M.view.ty.Contents (Elt F)) (inb : ∀ a, (![0, 0] : Fin 2 → ℕ) a + (![512, 1] : Fin 2 → ℕ) a ≤ S512x1.size a) :
    M.view.readAt (Elt F) (Rect.unit (s := S512x1) ![0, 0] ![512, 1] inb).toLoadRect f = M.view.read (Elt F) f :=
  View.readAt_full M.view f inb

theorem ldW (M : Memref sig .tc .vmem S1024x4096 .fp8e4m3) (f : M.view.ty.Contents (Elt F)) (inb : ∀ a, (![0, 0] : Fin 2 → ℕ) a + (![1024, 4096] : Fin 2 → ℕ) a ≤ S1024x4096.size a) :
    M.view.readAt (Elt F) (Rect.unit (s := S1024x4096) ![0, 0] ![1024, 4096] inb).toLoadRect f = M.view.read (Elt F) f :=
  View.readAt_full M.view f inb

theorem ldWs (M : Memref sig .tc .vmem S1x1024 .f32) (f : M.view.ty.Contents (Elt F)) (inb : ∀ a, (![0, 0] : Fin 2 → ℕ) a + (![1, 1024] : Fin 2 → ℕ) a ≤ S1x1024.size a) :
    M.view.readAt (Elt F) (Rect.unit (s := S1x1024) ![0, 0] ![1, 1024] inb).toLoadRect f = M.view.read (Elt F) f :=
  View.readAt_full M.view f inb

theorem ldB (M : Memref sig .tc .vmem S1x1024 .bf16) (f : M.view.ty.Contents (Elt F)) (inb : ∀ a, (![0, 0] : Fin 2 → ℕ) a + (![1, 1024] : Fin 2 → ℕ) a ≤ S1x1024.size a) :
    M.view.readAt (Elt F) (Rect.unit (s := S1x1024) ![0, 0] ![1, 1024] inb).toLoadRect f = M.view.read (Elt F) f :=
  View.readAt_full M.view f inb

theorem covLanes (M : Memref sig .tc .vmem S512x128 .f32) (inb inb' : ∀ a, (![0, 0] : Fin 2 → ℕ) a + (![512, 128] : Fin 2 → ℕ) a ≤ S512x128.size a) (p : Vec F S512x128 .f32) (L : List (View.Piece (Elt F) S512x128 .f32)) :
    M.view.readCov (⟨Rect.unit (s := S512x128) ![0, 0] ![512, 128] inb', p⟩ :: L) (Rect.unit (s := S512x128) ![0, 0] ![512, 128] inb).toLoadRect = p :=
  View.readCov_full M.view inb inb' p L

theorem stScale (M : Memref sig .tc .vmem S512x1 .f32) (f : M.view.ty.Contents (Elt F)) (inb : ∀ a, (![0, 0] : Fin 2 → ℕ) a + (![512, 1] : Fin 2 → ℕ) a ≤ S512x1.size a) (p : Vec F S512x1 .f32) (L : List (View.Piece (Elt F) S512x1 .f32)) :
    M.view.read (Elt F) (M.view.writes (Elt F) f (⟨Rect.unit (s := S512x1) ![0, 0] ![512, 1] inb, p⟩ :: L)) = p :=
  View.read_writes_full M.view f inb p L

theorem stCols (M : Memref sig .tc .vmem S512x1024 .fp8e4m3) (f : M.view.ty.Contents (Elt F)) (k : ℕ) (inb : ∀ a, (![0, k] : Fin 2 → ℕ) a + S512x128.size a ≤ S512x1024.size a) (p : Vec F S512x128 .fp8e4m3) (L : List (View.Piece (Elt F) S512x1024 .fp8e4m3)) :
    M.view.read (Elt F) (M.view.writes (Elt F) f (⟨Rect.unit (s := S512x1024) ![0, k] S512x128.size inb, p⟩ :: L)) = putCols (M.view.read (Elt F) (M.view.writes (Elt F) f L)) k p :=
  View.read_writes_cons_put M.view f inb p L rfl

theorem pay50_eq : k0_pay50 (F := F) = k0_pay18 := rfl

theorem pay51_eq : k0_pay51 (F := F) = k0_pay19 := rfl

theorem pay52_eq : k0_pay52 (F := F) = k0_pay20 := rfl

theorem pay53_eq : k0_pay53 (F := F) = k0_pay21 := rfl

theorem pay54_eq : k0_pay54 (F := F) = k0_pay22 := rfl

theorem pay55_eq : k0_pay55 (F := F) = k0_pay23 := rfl

theorem pay9_eq : k0_pay9 (F := F) = k0_pay24 := rfl

theorem pay10_eq : k0_pay10 (F := F) = k0_pay25 := rfl

set_option maxHeartbeats 4000000 in
/-- The body at the first column of a row of tiles that is not the last: the finished row's multiplier and scale, then the codes of its tile `0`, then tile `0` anew. -/
theorem runA (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : k0_cond2 i = 1#1) (hc3 : ¬ k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T (mulOf mx) (i 1) q) ∗ owns (c : Thread nD τ) arg8 fullShare (scaleOf mx) ∗ owns (c : Thread nD τ) arg9 fullShare (tilesOf x (k0_pay4 xs) w ws b (i 1) T) ∗ owns (c : Thread nD τ) arg10 fullShare (k0_pay4 xs) ∗ owns (c : Thread nD τ) arg11 fullShare (maxOf x (k0_pay4 xs) w ws b k0_pay5) ∗ owns (c : Thread nD τ) arg12 fullShare (mulOf mx)) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf]
  isplitl [H8]
  · iexists _; isplitr; swap
    · iexact H8
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, scaleOf]
  isplitl [H9]
  · iexists _; isplitr; swap
    · iexact H9
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, tilesOf, Scalar.ofBits]
  isplitl [H10]
  · iexists _; isplitr; swap
    · iexact H10
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil]
  isplitl [H11]
  · iexists _; isplitr; swap
    · iexact H11
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, maxOf, Scalar.ofBits]
  iexists _; isplitr; swap
  · iexact H12
  ipureintro
  sl_open_run
  simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, mulOf]

set_option maxHeartbeats 4000000 in
/-- The body at a later column of such a row: the codes of the finished row's tile, then this tile anew. -/
theorem runB (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : k0_cond2 i = 1#1) (hc3 : ¬ k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T mu (i 1) q) ∗ owns (c : Thread nD τ) arg8 fullShare sc ∗ owns (c : Thread nD τ) arg9 fullShare (tilesOf x xl w ws b (i 1) T) ∗ owns (c : Thread nD τ) arg10 fullShare xl ∗ owns (c : Thread nD τ) arg11 fullShare (maxOf x xl w ws b mx) ∗ owns (c : Thread nD τ) arg12 fullShare mu) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf]
  isplitl [H8]
  · iexists f8; isplitr; · ipureintro; rfl
    iexact H8
  isplitl [H9]
  · iexists _; isplitr; swap
    · iexact H9
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, tilesOf, Scalar.ofBits]
  isplitl [H10]
  · iexists f10; isplitr; · ipureintro; rfl
    iexact H10
  isplitl [H11]
  · iexists _; isplitr; swap
    · iexact H11
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, maxOf, Scalar.ofBits]
  iexists f12; isplitr; · ipureintro; rfl
  iexact H12

set_option maxHeartbeats 4000000 in
/-- The body at the first column of the last row: the multiplier and the scale, then the codes of tile `0`. -/
theorem runC (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : ¬ k0_cond2 i = 1#1) (hc3 : k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T (mulOf mx) (i 1) q) ∗ owns (c : Thread nD τ) arg8 fullShare (scaleOf mx) ∗ owns (c : Thread nD τ) arg9 fullShare T ∗ owns (c : Thread nD τ) arg10 fullShare (k0_pay4 xs) ∗ owns (c : Thread nD τ) arg11 fullShare k0_pay5 ∗ owns (c : Thread nD τ) arg12 fullShare (mulOf mx)) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf, pay50_eq, pay51_eq, pay52_eq, pay53_eq, pay54_eq, pay55_eq, pay9_eq, pay10_eq]
  isplitl [H8]
  · iexists _; isplitr; swap
    · iexact H8
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, scaleOf]
  isplitl [H9]
  · iexists f9; isplitr; · ipureintro; rfl
    iexact H9
  isplitl [H10]
  · iexists _; isplitr; swap
    · iexact H10
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil]
  isplitl [H11]
  · iexists _; isplitr; swap
    · iexact H11
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, maxOf, Scalar.ofBits]
  iexists _; isplitr; swap
  · iexact H12
  ipureintro
  sl_open_run
  simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, mulOf]

set_option maxHeartbeats 4000000 in
/-- The body at a later column of the last row: the codes of its tile. -/
theorem runD (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ k0_cond2 i = 1#1) (hc3 : k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T mu (i 1) q) ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf, pay50_eq, pay51_eq, pay52_eq, pay53_eq, pay54_eq, pay55_eq, pay9_eq, pay10_eq]
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.Kernel.Body

end
-- ==== Proof.KernelBodyAgree.lean ====
/- What one tile's computation leaves untouched, and what the codes of a tile depend on. -/
module

public import proofs.«01_k».proof.Proof.Gen.Kernel.Frame
public import proofs.«01_k».proof.Proof.Gen.Kernel.Skeleton
public import proofs.«01_k».proof.Proof.KernelBodyVals
public import Idealize.ShloMosaic.Lib.VecWindow
public import Idealize.ShloMosaic.Lib.Tactic.Stretches

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A row and a lane of one slab. -/
abbrev slabIdx (r : Fin 512) (l : Fin 128) : S1x512x128.Idx := (fun | ⟨0, _⟩ => (0 : Fin 1) | ⟨1, _⟩ => r | ⟨2, _⟩ => l)

theorem putSlab_apply (T : Vec F S14x512x1024 .f32) (j : Fin 14) (k : ℕ) (p : Vec F S1x512x128 .f32) (ix : S14x512x1024.Idx) :
    putSlab T j k p ix = if h : (ix 0).val = j.val ∧ k ≤ (ix 2).val ∧ (ix 2).val < k + 128
      then p (slabIdx (ix 1) ⟨(ix 2).val - k, by omega⟩) else T ix := by
  unfold putSlab VecWindow.put
  by_cases h : (ix 0).val = j.val ∧ k ≤ (ix 2).val ∧ (ix 2).val < k + 128
  · obtain ⟨h0, h1, h2⟩ := h
    have h' : ∀ a, slabOff j k a ≤ (ix a).val ∧ (ix a).val < slabOff j k a + S1x512x128.size a := fun a => by
      match a with
      | ⟨0, _⟩ => exact ⟨by show j.val ≤ (ix 0).val; rw [h0], by show (ix 0).val < j.val + 1; rw [h0]; omega⟩
      | ⟨1, _⟩ => exact ⟨Nat.zero_le _, by have := (ix 1).isLt; show (ix 1).val < 0 + 512; have e : (ix 1).val < 512 := this; omega⟩
      | ⟨2, _⟩ => exact ⟨h1, h2⟩
    rw [dif_pos h', dif_pos ⟨h0, h1, h2⟩]
    congr 1
    funext a
    match a with
    | ⟨0, _⟩ => exact Fin.ext (by show (ix 0).val - j.val = 0; rw [h0]; omega)
    | ⟨1, _⟩ => exact Fin.ext (by show (ix 1).val - 0 = (ix 1).val; omega)
    | ⟨2, _⟩ => rfl
  · rw [dif_neg h, dif_neg]
    intro h'
    refine h ⟨?_, (h' 2).1, (h' 2).2⟩
    have a0 : j.val ≤ (ix 0).val := (h' 0).1
    have a1 : (ix 0).val < j.val + 1 := (h' 0).2
    omega

/-- The tiles other than tile `j` stay as they were. -/
theorem tilesOf_ne (x : Vec F S512x4096 .fp8e4m3) (xl : Vec F S512x128 .f32) (w : Vec F S1024x4096 .fp8e4m3) (ws : Vec F S1x1024 .f32)
    (b : Vec F S1x1024 .bf16) (j : Fin 14) (T : Vec F S14x512x1024 .f32) (ix : S14x512x1024.Idx) (h : (ix 0).val ≠ j.val) :
    tilesOf x xl w ws b j T ix = T ix := by
  simp only [tilesOf, putSlab_apply, h, false_and, dite_false]

/-- Tile `j` itself does not depend on what the tiles held before. -/
theorem tilesOf_eq (x : Vec F S512x4096 .fp8e4m3) (xl : Vec F S512x128 .f32) (w : Vec F S1024x4096 .fp8e4m3) (ws : Vec F S1x1024 .f32)
    (b : Vec F S1x1024 .bf16) (j : Fin 14) (T T' : Vec F S14x512x1024 .f32) (ix : S14x512x1024.Idx) (h : (ix 0).val = j.val) :
    tilesOf x xl w ws b j T ix = tilesOf x xl w ws b j T' ix := by
  have h2 : (ix 2).val < 1024 := (ix 2).isLt
  simp only [tilesOf, putSlab_apply, h, true_and]
  split_ifs <;> first | rfl | omega

/-- Two sets of tiles that agree on tile `j` have the same slabs there, -/
theorem slab_congr (T T' : Vec F S14x512x1024 .f32) (j : Fin 14) (h : ∀ ix : S14x512x1024.Idx, (ix 0).val = j.val → T ix = T' ix) (k : ℕ)
    (hk : k + 128 ≤ 1024) : slab T j k hk = slab T' j k hk := by
  funext z
  unfold slab VecWindow.window
  refine h _ ?_
  have : (z 0).val = 0 := Nat.lt_one_iff.mp (z 0).isLt
  show j.val + 1 * (z 0).val = j.val
  omega

/-- and so the same codes. -/
theorem codesOf_congr (T T' : Vec F S14x512x1024 .f32) (mu : Vec F S512x128 .f32) (j : Fin 14) (q : Vec F S512x1024 .fp8e4m3)
    (h : ∀ ix : S14x512x1024.Idx, (ix 0).val = j.val → T ix = T' ix) : codesOf T mu j q = codesOf T' mu j q := by
  unfold codesOf
  simp only [slab_congr T T' j h]

end Cert.Kernel.Body

end
-- ==== Proof.KernelTrack.lean ====
/- What the kernel's scratch buffers hold before each grid point, and how one point of the body changes it. -/
module

public import proofs.«01_k».proof.Proof.Gen.Kernel.Frame
public import proofs.«01_k».proof.Proof.Gen.Kernel.Skeleton
public import proofs.«01_k».proof.Proof.KernelBodyAgree
public import Idealize.ShloMosaic.Lib.Tactic.Stretches

@[expose] public section

set_option maxRecDepth 16384

noncomputable section

namespace Cert.Kernel.Track

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point at row `i`, column `j` (rows run slowest, fourteen columns a row). -/
def pt (i j : ℕ) : Fin cfg0.N := ⟨(14 * i + j) % 98, Nat.lt_of_lt_of_eq (Nat.mod_lt _ (by omega)) N_0.symm⟩

theorem pt_eq (t : Fin cfg0.N) (i j : ℕ) (h : t.val = 14 * i + j) : pt i j = t := by
  have ht : t.val < 98 := Nat.lt_of_lt_of_eq t.isLt N_0
  exact Fin.ext (by show (14 * i + j) % 98 = t.val; omega)

/-! ## The input blocks at a grid point -/

/-- The activations' block, -/
def bx (c : Dev nD) (t : Fin cfg0.N) : Vec F S512x4096 .fp8e4m3 := iblk m c 0 t
/-- the activations' scales, -/
def bxs (c : Dev nD) (t : Fin cfg0.N) : Vec F S512x1 .f32 := iblk m c 1 t
/-- the weights' block, -/
def bw (c : Dev nD) (t : Fin cfg0.N) : Vec F S1024x4096 .fp8e4m3 := iblk m c 2 t
/-- the weights' scales -/
def bws (c : Dev nD) (t : Fin cfg0.N) : Vec F S1x1024 .f32 := iblk m c 3 t
/-- and the bias. -/
def bb (c : Dev nD) (t : Fin cfg0.N) : Vec F S1x1024 .bf16 := iblk m c 4 t

/-! ## What a whole row of tiles comes to -/

/-- The activation scales of row `i`, once per lane. -/
def lanes (c : Dev nD) (i : ℕ) : Vec F S512x128 .f32 := k0_pay4 (bxs m c (pt i 0))

/-- The fourteen tiles of row `i`. -/
def tileRow (c : Dev nD) (i : ℕ) : Vec F S14x512x1024 .f32 := fun ix =>
  tilesOf (bx m c (pt i (ix 0).val)) (lanes m c i) (bw m c (pt i (ix 0).val)) (bws m c (pt i (ix 0).val)) (bb m c (pt i (ix 0).val))
    (ix 0) (fun _ => FloatOps.ofBits .f32 0#32) ix

/-- The maximum per lane over the first `n` tiles of row `i`. -/
def maxTo (c : Dev nD) (i : ℕ) : ℕ → Vec F S512x128 .f32
  | 0 => k0_pay5
  | n + 1 => maxOf (bx m c (pt i n)) (lanes m c i) (bw m c (pt i n)) (bws m c (pt i n)) (bb m c (pt i n)) (maxTo c i n)

/-- The scales of row `i`, -/
def scaleRow (c : Dev nD) (i : ℕ) : Vec F S512x1 .f32 := scaleOf (maxTo m c i 14)

/-- its multipliers -/
def mulRow (c : Dev nD) (i : ℕ) : Vec F S512x128 .f32 := mulOf (maxTo m c i 14)

/-- and the codes of its tile `j`, written over `q`. -/
def codesRow (c : Dev nD) (i : ℕ) (j : Fin 14) (q : Vec F S512x1024 .fp8e4m3) : Vec F S512x1024 .fp8e4m3 :=
  codesOf (tileRow m c i) (mulRow m c i) j q

/-! ## The invariant -/

/-- Before column `j` of row `i`: the tiles to the left of `j` are row `i`'s, those from `j` on the previous row's; the running maximum is
    over the tiles done so far (at column `0`: the previous row's, complete); from column `1` on the lanes hold row `i`'s
    activation scales and the previous row's multiplier. -/
structure Inv (c : Dev nD) (i j : ℕ) (T : Vec F S14x512x1024 .f32) (xl mx mu : Vec F S512x128 .f32) : Prop where
  done : ∀ ix : S14x512x1024.Idx, (ix 0).val < j → i < 6 → T ix = tileRow m c i ix
  prev : ∀ ix : S14x512x1024.Idx, j ≤ (ix 0).val → 1 ≤ i → i ≤ 6 → T ix = tileRow m c (i - 1) ix
  lan : 1 ≤ j → i < 6 → xl = lanes m c i
  maxd : 1 ≤ j → i < 6 → mx = maxTo m c i j
  maxp : j = 0 → 1 ≤ i → i ≤ 6 → mx = maxTo m c (i - 1) 14
  mul : 1 ≤ j → 1 ≤ i → i ≤ 6 → mu = mulRow m c (i - 1)

variable {m} {c : Dev nD}

/-- At the start nothing is asked. -/
theorem Inv.start (T : Vec F S14x512x1024 .f32) (xl mx mu : Vec F S512x128 .f32) : Inv m c 0 0 T xl mx mu where
  done := fun ix h => absurd h (Nat.not_lt_zero _)
  prev := fun ix _ h => absurd h (by omega)
  lan := fun h => absurd h (by omega)
  maxd := fun h => absurd h (by omega)
  maxp := fun _ h => absurd h (by omega)
  mul := fun h => absurd h (by omega)

/-- After the last column comes the first of the next row. -/
theorem Inv.wrap {i : ℕ} {T : Vec F S14x512x1024 .f32} {xl mx mu : Vec F S512x128 .f32} (h : Inv m c i 14 T xl mx mu) :
    Inv m c (i + 1) 0 T xl mx mu where
  done := fun ix h => absurd h (Nat.not_lt_zero _)
  prev := fun ix _ _ hi => h.done ix (ix 0).isLt (by omega)
  lan := fun h => absurd h (by omega)
  maxd := fun h => absurd h (by omega)
  maxp := fun _ _ hi => h.maxd (by omega) (by omega)
  mul := fun h => absurd h (by omega)

variable {T : Vec F S14x512x1024 .f32} {xl mx mu : Vec F S512x128 .f32} {t : Fin cfg0.N} {i : ℕ} {j : Fin 14}

/-- The tiles after the body has computed tile `j`. -/
theorem tiles_step (hi : i < 6) (ht : t.val = 14 * i + j.val) (h : Inv m c i j.val T xl mx mu) :
    (∀ ix : S14x512x1024.Idx, (ix 0).val < j.val + 1 → i < 6 →
        tilesOf (bx m c t) (lanes m c i) (bw m c t) (bws m c t) (bb m c t) j T ix = tileRow m c i ix)
      ∧ (∀ ix : S14x512x1024.Idx, j.val + 1 ≤ (ix 0).val → 1 ≤ i → i ≤ 6 →
        tilesOf (bx m c t) (lanes m c i) (bw m c t) (bws m c t) (bb m c t) j T ix = tileRow m c (i - 1) ix) := by
  refine ⟨fun ix hx _ => ?_, fun ix hx h1 h6 => ?_⟩
  · rcases Nat.lt_succ_iff_lt_or_eq.mp hx with hlt | heq
    · rw [tilesOf_ne _ _ _ _ _ _ _ _ (Nat.ne_of_lt hlt)]; exact h.done ix hlt hi
    · have ej : ix 0 = j := Fin.ext heq
      rw [tilesOf_eq _ _ _ _ _ _ _ (fun _ => FloatOps.ofBits .f32 0#32) _ heq]
      unfold tileRow
      rw [pt_eq t i (ix 0).val (by omega), ej]
  · rw [tilesOf_ne _ _ _ _ _ _ _ _ (by omega)]; exact h.prev ix (by omega) h1 h6

/-- Column `0` of a row that computes. -/
theorem stepA (hi : i < 6) (hj : j.val = 0) (ht : t.val = 14 * i + j.val) (h : Inv m c i j.val T xl mx mu) :
    Inv m c i (j.val + 1) (tilesOf (bx m c t) (k0_pay4 (bxs m c t)) (bw m c t) (bws m c t) (bb m c t) j T) (k0_pay4 (bxs m c t))
      (maxOf (bx m c t) (k0_pay4 (bxs m c t)) (bw m c t) (bws m c t) (bb m c t) k0_pay5) (mulOf mx) := by
  have hp : pt i 0 = t := pt_eq t i 0 (by omega)
  have hl : k0_pay4 (bxs m c t) = lanes m c i := by unfold lanes; rw [hp]
  rw [hl]
  exact { done := (tiles_step hi ht h).1, prev := (tiles_step hi ht h).2, lan := fun _ _ => rfl
          maxd := fun _ _ => by rw [hj]; show _ = maxTo m c i (0 + 1); rw [maxTo, hp, maxTo]
          maxp := fun h0 => absurd h0 (by omega)
          mul := fun _ h1 h6 => by rw [h.maxp hj h1 h6]; rfl }

/-- A later column of a row that computes. -/
theorem stepB (hi : i < 6) (hj : 1 ≤ j.val) (ht : t.val = 14 * i + j.val) (h : Inv m c i j.val T xl mx mu) :
    Inv m c i (j.val + 1) (tilesOf (bx m c t) xl (bw m c t) (bws m c t) (bb m c t) j T) xl
      (maxOf (bx m c t) xl (bw m c t) (bws m c t) (bb m c t) mx) mu := by
  have hp : pt i j.val = t := pt_eq t i j.val ht
  have hl : xl = lanes m c i := h.lan hj hi
  have hm : mx = maxTo m c i j.val := h.maxd hj hi
  rw [hl, hm]
  rw [hl] at h
  exact { done := (tiles_step hi ht h).1, prev := (tiles_step hi ht h).2, lan := fun _ _ => rfl
          maxd := fun _ _ => by rw [maxTo, hp]
          maxp := fun h0 => absurd h0 (by omega)
          mul := fun _ h1 h6 => h.mul hj h1 h6 }

/-- Column `0` of the last row, which only quantises. -/
theorem stepC (hi : i = 6) (hj : j.val = 0) (h : Inv m c i j.val T xl mx mu) (xl' mx' : Vec F S512x128 .f32) :
    Inv m c i (j.val + 1) T xl' mx' (mulOf mx) where
  done := fun _ _ h6 => absurd h6 (by omega)
  prev := fun ix hx h1 h6 => h.prev ix (by omega) h1 h6
  lan := fun _ h6 => absurd h6 (by omega)
  maxd := fun _ h6 => absurd h6 (by omega)
  maxp := fun h0 => absurd h0 (by omega)
  mul := fun _ h1 h6 => by rw [h.maxp hj h1 h6]; rfl

/-- A later column of the last row. -/
theorem stepD (hi : i = 6) (hj : 1 ≤ j.val) (h : Inv m c i j.val T xl mx mu) :
    Inv m c i (j.val + 1) T xl mx mu where
  done := fun _ _ h6 => absurd h6 (by omega)
  prev := fun ix hx h1 h6 => h.prev ix (by omega) h1 h6
  lan := fun _ h6 => absurd h6 (by omega)
  maxd := fun _ h6 => absurd h6 (by omega)
  maxp := fun h0 => absurd h0 (by omega)
  mul := fun _ h1 h6 => h.mul hj h1 h6

/-- The codes written at column `0` are the previous row's. -/
theorem codes0 (hj : j.val = 0) (h1 : 1 ≤ i) (h6 : i ≤ 6) (h : Inv m c i j.val T xl mx mu) (q : Vec F S512x1024 .fp8e4m3) :
    codesOf T (mulOf mx) j q = codesRow m c (i - 1) j q := by
  unfold codesRow mulRow
  rw [h.maxp hj h1 h6]
  exact codesOf_congr _ _ _ _ _ fun ix hx => h.prev ix (by omega) h1 h6

/-- The codes written at a later column are the previous row's. -/
theorem codes1 (hj : 1 ≤ j.val) (h1 : 1 ≤ i) (h6 : i ≤ 6) (h : Inv m c i j.val T xl mx mu) (q : Vec F S512x1024 .fp8e4m3) :
    codesOf T mu j q = codesRow m c (i - 1) j q := by
  unfold codesRow
  rw [h.mul hj h1 h6]
  exact codesOf_congr _ _ _ _ _ fun ix hx => h.prev ix (by omega) h1 h6

/-- The scales written at column `0` are the previous row's. -/
theorem scale0 (hj : j.val = 0) (h1 : 1 ≤ i) (h6 : i ≤ 6) (h : Inv m c i j.val T xl mx mu) :
    scaleOf mx = scaleRow m c (i - 1) := by
  unfold scaleRow; rw [h.maxp hj h1 h6]

end Cert.Kernel.Track

end
-- ==== Proof.KernelRun.lean ====
/- The kernel run over the grid: at every write-back the codes and the scales are the finished row's. -/
module

public import proofs.«01_k».proof.Proof.Gen.Kernel.Frame
public import proofs.«01_k».proof.Proof.Gen.Kernel.Skeleton
public import proofs.«01_k».proof.Proof.KernelBodyRun
public import proofs.«01_k».proof.Proof.KernelTrack
public import Idealize.ShloMosaic.Lib.Pipeline.DatRel
public import Idealize.ShloMosaic.Lib.Tactic.Stretches

@[expose] public section

set_option maxRecDepth 16384

noncomputable section

namespace Cert.Kernel.Track

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, in numbers -/

theorem cond1_iff : ∀ t : Fin cfg0.N, k0_cond1 (grid0.coords t) = 1#1 ↔ t.val % 14 = 0 :=
  (by decide +kernel : ∀ t : Fin grid0.N, k0_cond1 (grid0.coords t) = 1#1 ↔ t.val % 14 = 0)
theorem cond2_iff : ∀ t : Fin cfg0.N, k0_cond2 (grid0.coords t) = 1#1 ↔ t.val / 14 < 6 :=
  (by decide +kernel : ∀ t : Fin grid0.N, k0_cond2 (grid0.coords t) = 1#1 ↔ t.val / 14 < 6)
theorem cond3_iff : ∀ t : Fin cfg0.N, k0_cond3 (grid0.coords t) = 1#1 ↔ t.val / 14 = 6 :=
  (by decide +kernel : ∀ t : Fin grid0.N, k0_cond3 (grid0.coords t) = 1#1 ↔ t.val / 14 = 6)
theorem coords_col : ∀ t : Fin cfg0.N, (grid0.coords t 1).val = t.val % 14 :=
  (by decide +kernel : ∀ t : Fin grid0.N, (grid0.coords t 1).val = t.val % 14)
/-- Window 6 (the scales) is written back only at the last column of a row. -/
theorem flush6_col : ∀ t : Fin cfg0.N, (cfg0.win 6).flush t = true → t.val % 14 = 13 :=
  (by decide +kernel : ∀ t : Fin grid0.N, win0_6.flush t = true → t.val % 14 = 13)

/-! ## The pipeline's proof data -/

/-- The invariant before point `t`: the scratch buffers hold what `Inv` says, the generator register anything. -/
def Phi (c : Dev nD) (t : Fin (cfg0.N + 1)) : sProp 𝕄 :=
  iprop(∃ T xl mx mu, ∃ r, ⌜Inv m c (t.val / 14) (t.val % 14) T xl mx mu⌝ ∗ owns (c : Thread nD τ) (Memref.whole cc0_scratch0) fullShare T
    ∗ owns (c : Thread nD τ) (Memref.whole cc0_scratch1) fullShare xl ∗ owns (c : Thread nD τ) (Memref.whole cc0_scratch2) fullShare mx
    ∗ owns (c : Thread nD τ) (Memref.whole cc0_scratch3) fullShare mu ∗ prngReg c r)

/-- The proof data: the arrays as the region finds them; each input's buffer at its block; the two outputs' buffers are held to the
    relation `Rel` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Phi m c t
  q _ := fullShare
  owed _ := 0

/-- The outputs, of which only a relation is said. -/
def outs : Fin cfg0.W → Bool := fun w => match w with
  | ⟨0, _⟩ => false | ⟨1, _⟩ => false | ⟨2, _⟩ => false | ⟨3, _⟩ => false | ⟨4, _⟩ => false | ⟨5, _⟩ => true | ⟨6, _⟩ => true

/-- From the second row on, the codes' buffer holds the previous row's codes of this column, the scales' buffer the previous row's
    scales. -/
def Rel (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => 14 ≤ t.val → ∃ q, X = codesRow m c (t.val / 14 - 1) (grid0.coords t 1) q
  | ⟨6, _⟩ => fun X => 14 ≤ t.val → X = scaleRow m c (t.val / 14 - 1)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The outputs' proof data, relationally. -/
abbrev rel (c : Dev nD) := (dats m 0 c).toRRel outs (Rel m c)

theorem leaves5 (c : Dev nD) (t : Fin cfg0.N) (X) (h : (rel m c).Leaves 5 t X) : 14 ≤ t.val → ∃ q, X = codesRow m c (t.val / 14 - 1) (grid0.coords t 1) q :=
  (dats m 0 c).toRRel_leaves (w := 5) rfl h
theorem leaves6 (c : Dev nD) (t : Fin cfg0.N) (X) (h : (rel m c).Leaves 6 t X) : 14 ≤ t.val → X = scaleRow m c (t.val / 14 - 1) :=
  (dats m 0 c).toRRel_leaves (w := 6) rfl h

variable {m} {c : Dev nD}

/-- Away from a row's first column the scales' buffer still holds what the first column wrote. -/
theorem finds_scale (t : Fin cfg0.N) (h0 : ¬ t.val % 14 = 0) (h14 : 14 ≤ t.val) (Y) (hY : (rel m c).Finds 6 t Y) : Y = scaleRow m c (t.val / 14 - 1) := by
  rw [(rel m c).finds_of_pos (w := 6) rfl (by omega)] at hY
  rcases hY with hf | hl
  · have := flush6_col _ hf
    simp only at this
    omega
  · rw [leaves6 m c _ Y hl (by show 14 ≤ t.val - 1; omega)]
    show scaleRow m c ((t.val - 1) / 14 - 1) = _
    rw [show (t.val - 1) / 14 = t.val / 14 by omega]

/-- From a column to the next, across the end of a row. -/
theorem inv_next (t : Fin cfg0.N) {T : Vec F S14x512x1024 .f32} {xl mx mu : Vec F S512x128 .f32}
    (h : Inv m c (t.val / 14) ((grid0.coords t 1).val + 1) T xl mx mu) : Inv m c (t.succ.val / 14) (t.succ.val % 14) T xl mx mu := by
  rw [coords_col t] at h
  rw [Fin.val_succ]
  rcases Nat.lt_or_ge (t.val % 14) 13 with h13 | h13
  · rw [show (t.val + 1) / 14 = t.val / 14 by omega, show (t.val + 1) % 14 = t.val % 14 + 1 by omega]; exact h
  · have e : t.val % 14 + 1 = 14 := by omega
    rw [e] at h
    rw [show (t.val + 1) / 14 = t.val / 14 + 1 by omega, show (t.val + 1) % 14 = 0 by omega]; exact h.wrap

variable (m) (c)

/-! ## The body obligation -/

/-- What the body is called with at point `t`, the windows one by one, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rel m c).Finds 5 t Y⌝ ∗ owns (c : Thread nD τ) (st0_5 t) fullShare Y)
    ∗ (∃ Y, ⌜(rel m c).Finds 6 t Y⌝ ∗ owns (c : Thread nD τ) (st0_6 t) fullShare Y))

/-- and what it returns. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rel m c 5 t X⌝ ∗ owns (c : Thread nD τ) (st0_5 t) fullShare X)
    ∗ (∃ X, ⌜Rel m c 6 t X⌝ ∗ owns (c : Thread nD τ) (st0_6 t) fullShare X))

set_option maxHeartbeats 1600000 in
/-- The body at any point, in its four cases. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Phi m c t.succ from rfl, show (dats m 0 c).Φ t.castSucc = Phi m c t.castSucc from rfl,
    show (dats m 0 c).owesAt () t.succ = (dats m 0 c).owesAt () t.castSucc from rfl,
    after0_0, after0_1, after0_2, after0_3, after0_4]
  unfold Phi
  iintro ⟨⟨%T, %xl, %mx, %mu, %r, %hI, S0, S1, S2, S3, HR⟩, Ho, ⟨%d0, H0⟩, ⟨%d1, H1⟩, ⟨%d2, H2⟩, ⟨%d3, H3⟩, ⟨%d4, H4⟩, ⟨%Y5, %hY5, H5⟩, ⟨%Y6, %hY6, H6⟩⟩
  have htN : t.val < 98 := Nat.lt_of_lt_of_eq t.isLt N_0
  have hcol := coords_col t
  rw [show (Fin.castSucc t).val = t.val from rfl, ← hcol] at hI
  have ht : t.val = 14 * (t.val / 14) + (grid0.coords t 1).val := by omega
  by_cases h0 : t.val % 14 = 0
  · have hj0 : (grid0.coords t 1).val = 0 := by omega
    by_cases h6 : t.val / 14 < 6
    · have e1 : k0_cond1 (grid0.coords t) = 1#1 := (cond1_iff t).mpr h0
      have e2 : k0_cond2 (grid0.coords t) = 1#1 := (cond2_iff t).mpr h6
      have e3 : ¬ k0_cond3 (grid0.coords t) = 1#1 := fun h => absurd ((cond3_iff t).mp h) (by omega)
      iapply (runA c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepA h6 hj0 ht hI)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes0 hj0 (by omega) (by omega) hI Y5⟩
      iexists _; isplitr; swap
      · iexact H6
      ipureintro
      exact fun h14 => scale0 hj0 (by omega) (by omega) hI
    · have hi6 : t.val / 14 = 6 := by omega
      have e1 : k0_cond1 (grid0.coords t) = 1#1 := (cond1_iff t).mpr h0
      have e2 : ¬ k0_cond2 (grid0.coords t) = 1#1 := fun h => h6 ((cond2_iff t).mp h)
      have e3 : k0_cond3 (grid0.coords t) = 1#1 := (cond3_iff t).mpr (by omega)
      iapply (runC c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepC hi6 hj0 hI (k0_pay4 (bxs m c t)) k0_pay5)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes0 hj0 (by omega) (by omega) hI Y5⟩
      iexists _; isplitr; swap
      · iexact H6
      ipureintro
      exact fun h14 => scale0 hj0 (by omega) (by omega) hI
  · have hj1 : 1 ≤ (grid0.coords t 1).val := by omega
    by_cases h6 : t.val / 14 < 6
    · have e1 : ¬ k0_cond1 (grid0.coords t) = 1#1 := fun h => h0 ((cond1_iff t).mp h)
      have e2 : k0_cond2 (grid0.coords t) = 1#1 := (cond2_iff t).mpr h6
      have e3 : ¬ k0_cond3 (grid0.coords t) = 1#1 := fun h => absurd ((cond3_iff t).mp h) (by omega)
      iapply (runB c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepB h6 hj1 ht hI)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes1 hj1 (by omega) (by omega) hI Y5⟩
      iexists _; isplitr; swap
      · iexact H6
      ipureintro
      exact fun h14 => finds_scale t h0 h14 Y6 hY6
    · have hi6 : t.val / 14 = 6 := by omega
      have e1 : ¬ k0_cond1 (grid0.coords t) = 1#1 := fun h => h0 ((cond1_iff t).mp h)
      have e2 : ¬ k0_cond2 (grid0.coords t) = 1#1 := fun h => h6 ((cond2_iff t).mp h)
      have e3 : k0_cond3 (grid0.coords t) = 1#1 := (cond3_iff t).mpr (by omega)
      iapply (runD c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepD hi6 hj1 hI)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes1 hj1 (by omega) (by omega) hI Y5⟩
      iexists _; isplitr; swap
      · iexact H6
      ipureintro
      exact fun h14 => finds_scale t h0 h14 Y6 hY6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation : Pipeline.BodyObligationRel (dats (F := F) m 0 c) (defs₀ (F := F)) Variants.none () Set.univ outs (Rel m c) := fun t => by
  rw [bigSep_W0, bigSep_W0, defs₀_row]
  exact triple_restated (sound_body m c t) rfl .rfl fun _ => .rfl

/-! ## The run -/

theorem phi_in : Pipeline.ΦA spec0 c ⊢ Phi m c 0 := by
  unfold Pipeline.ΦA Phi
  rw [scopedRest0_eq]
  iintro ⟨⟨⟨%f0, S0⟩, ⟨%f1, S1⟩, ⟨%f2, S2⟩, ⟨%f3, S3⟩⟩, ⟨%r, HR⟩⟩
  iexists f0; iexists f1; iexists f2; iexists f3; iexists r
  simp only [owns_whole]
  isplitr
  · ipureintro; exact Inv.start _ _ _ _
  isplitl [S0]; · iexact S0
  isplitl [S1]; · iexact S1
  isplitl [S2]; · iexact S2
  isplitl [S3]; · iexact S3
  iexact HR

theorem phi_out (t : Fin (cfg0.N + 1)) : Phi m c t ⊢ Pipeline.ΦA spec0 c := by
  unfold Pipeline.ΦA Phi
  rw [scopedRest0_eq]
  simp only [owns_whole]
  iintro ⟨%T, %xl, %mx, %mu, %r, %hI, S0, S1, S2, S3, HR⟩
  isplitl [S0 S1 S2 S3]
  · isplitl [S0]; · iexists _; iexact S0
    isplitl [S1]; · iexists _; iexact S1
    isplitl [S2]; · iexists _; iexact S2
    iexists _; iexact S3
  iexists _; iexact HR

set_option backward.isDefEq.respectTransparency.types false in
set_option maxHeartbeats 1600000 in
/-- Every weakly fair execution of @main ends with the arrays as the relation allows, every other unscoped buffer as the region found it
    and every semaphore counter at zero. -/
theorem run_main : θ_run defs (onTc (τ := τ) (main (F := F))) (s₀ m ρ)
    (fun r => Pipeline.RDat.FramePost cfg0 (fun c => rel m c) (V m) r ∧ r.2.sem = fun _ => 0) :=
  Pipeline.RDat.θ_run_frame_track (Q' := _) cfgs (0 : Fin 1) launch0 defs₀ Variants.none (fun c => rel m c) m ρ main
    (hbody := fun c => (body_obligation m c).toRRel) (hshare := fun c => (dats m 0 c).share_full fun _ => rfl)
    (howed := fun _ _ => rfl) (V := V m) (hmain := hmain m Variants.none) (hA := A_eq m)
    (hin := fun c => phi_in m c) (hout := fun c => phi_out m c _)

/-- The argument arrays end unchanged and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Track

end
-- ==== Proof.BodyVals.lean ====
/- What one run of the kernel body computes, as functions of vectors: the state it carries from one grid point to the
   next is the un-gelu'd tile row `T` (fourteen tiles of 512 x 1024), the activation scales spread over the lanes `xl`,
   the running maximum per lane `mx` and the multiplier per lane `mu`. -/
module

public import proofs.«01_k».proof.Proof.Gen.KernelIdeal.Skeleton
public import Idealize.ShloMosaic.Lib.VecWindow
public import Idealize.ShloMosaic.Lib.Tactic.Stretches

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The place of the 128 columns from `k` on of tile `j` within the fourteen tiles. -/
abbrev slabOff (j : Fin 14) (k : ℕ) : Fin 3 → ℕ := ![j.val, 0, k]

theorem slabOff_inb (j : Fin 14) (k : ℕ) (hk : k + 128 ≤ 1024) :
    ∀ a, slabOff j k a + S1x512x128.size a ≤ S14x512x1024.size a := fun a => by
  have := j.isLt
  match a with
  | ⟨0, _⟩ => show j.val + 1 ≤ 14; omega
  | ⟨1, _⟩ => show 0 + 512 ≤ 512; omega
  | ⟨2, _⟩ => show k + 128 ≤ 1024; omega

/-- The 128 columns from `k` on of tile `j`. -/
def slab (T : Vec F S14x512x1024 .f32) (j : Fin 14) (k : ℕ) (hk : k + 128 ≤ 1024 := by omega) : Vec F S1x512x128 .f32 :=
  VecWindow.window T (slabOff j k) S1x512x128.size (slabOff_inb j k hk)

/-- `T` with `p` over the 128 columns from `k` on of tile `j`. -/
def putSlab (T : Vec F S14x512x1024 .f32) (j : Fin 14) (k : ℕ) (p : Vec F S1x512x128 .f32) : Vec F S14x512x1024 .f32 :=
  VecWindow.put T (slabOff j k) S1x512x128.size p

/-- A block of codes `q` with `p` over its 128 columns from `k` on. -/
def putCols (q : Vec F S512x1024 .fp8e4m3) (k : ℕ) (p : Vec F S512x128 .fp8e4m3) : Vec F S512x1024 .fp8e4m3 :=
  VecWindow.put q ![0, k] S512x128.size p

/-- The multiplier per lane, from the maximum per lane of the finished row of tiles. -/
def mulOf (mx : Vec F S512x128 .f32) : Vec F S512x128 .f32 :=
  k0_pay2 (k0_pay16 (k0_pay11 mx) (k0_pay12 mx) (k0_pay13 mx) k0_pay14) (k0_pay17 (k0_pay11 mx) (k0_pay12 mx) (k0_pay13 mx) k0_pay14)

/-- The scale of each row, from the maximum per lane of the finished row of tiles. -/
def scaleOf (mx : Vec F S512x128 .f32) : Vec F S512x1 .f32 :=
  k0_pay3 (k0_pay16 (k0_pay11 mx) (k0_pay12 mx) (k0_pay13 mx) k0_pay14) (k0_pay17 (k0_pay11 mx) (k0_pay12 mx) (k0_pay13 mx) k0_pay14)

/-- The codes of tile `j`, from the finished tiles and the multiplier. -/
def codesOf (T : Vec F S14x512x1024 .f32) (mu : Vec F S512x128 .f32) (j : Fin 14) (q : Vec F S512x1024 .fp8e4m3) :
    Vec F S512x1024 .fp8e4m3 :=
  putCols (putCols (putCols (putCols (putCols (putCols (putCols (putCols q 0 (k0_pay18 (slab T j 0) mu)) 128 (k0_pay19 (slab T j 128) mu)) 256 (k0_pay20 (slab T j 256) mu)) 384 (k0_pay21 (slab T j 384) mu)) 512 (k0_pay22 (slab T j 512) mu)) 640 (k0_pay23 (slab T j 640) mu)) 768 (k0_pay24 (slab T j 768) mu)) 896 (k0_pay25 (slab T j 896) mu)

/-- The tiles after tile `j` is computed anew from the blocks of the activations, the weights, the weight scales and the bias. -/
def tilesOf (x : Vec F S512x4096 .fp8e4m3) (xl : Vec F S512x128 .f32) (w : Vec F S1024x4096 .fp8e4m3) (ws : Vec F S1x1024 .f32) (b : Vec F S1x1024 .bf16) (j : Fin 14) (T : Vec F S14x512x1024 .f32) :
    Vec F S14x512x1024 .f32 :=
  let v100 := k0_pay26 x w
  let v104 := k0_pay27 ws
  let v106 := k0_pay28 b
  let v109 := k0_pay29 v106
  putSlab (putSlab (putSlab (putSlab (putSlab (putSlab (putSlab (putSlab T j 0 (k0_pay31 v100 v104 v106 xl)) j 128 (k0_pay33 v100 v104 v106 xl)) j 256 (k0_pay37 v104 v109 (k0_pay35 v100) xl)) j 384 (k0_pay39 v100 v104 v109 xl)) j 512 (k0_pay44 (k0_pay41 v100 v104 v109 xl) (k0_pay42 v100 v104 v109 xl) (Scalar.ofBits .f32 0x3F800000#32))) j 640 (k0_pay46 v100 v104 v109 xl)) j 768 (k0_pay49 v100 v104 v109 xl)) j 896 (k0_pay7 v100 v104 v109 xl)

/-- The maximum per lane after the same tile is taken into it. -/
def maxOf (x : Vec F S512x4096 .fp8e4m3) (xl : Vec F S512x128 .f32) (w : Vec F S1024x4096 .fp8e4m3) (ws : Vec F S1x1024 .f32) (b : Vec F S1x1024 .bf16) (mx : Vec F S512x128 .f32) : Vec F S512x128 .f32 :=
  let v100 := k0_pay26 x w
  let v104 := k0_pay27 ws
  let v106 := k0_pay28 b
  let v109 := k0_pay29 v106
  let v186 := k0_pay40 v100 v104 v109 (k0_pay34 v100 v104 v106 mx xl xl) (k0_pay35 v100) xl xl
  let v224 := k0_pay47 v100 v104 v109 v186 (k0_pay41 v100 v104 v109 xl) (k0_pay42 v100 v104 v109 xl) (Scalar.ofBits .f32 0x3F800000#32) xl
  k0_pay8 v100 v104 v109 v224 (k0_pay48 v100 v104 v109 xl) xl

end Cert.KernelIdeal.Body

end
-- ==== Proof.BodyAgree.lean ====
/- What one tile's computation leaves untouched, and what the codes of a tile depend on. -/
module

public import proofs.«01_k».proof.Proof.Gen.KernelIdeal.Frame
public import proofs.«01_k».proof.Proof.Gen.KernelIdeal.Skeleton
public import proofs.«01_k».proof.Proof.BodyVals
public import Idealize.ShloMosaic.Lib.VecWindow
public import Idealize.ShloMosaic.Lib.Tactic.Stretches

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A row and a lane of one slab. -/
abbrev slabIdx (r : Fin 512) (l : Fin 128) : S1x512x128.Idx := (fun | ⟨0, _⟩ => (0 : Fin 1) | ⟨1, _⟩ => r | ⟨2, _⟩ => l)

theorem putSlab_apply (T : Vec F S14x512x1024 .f32) (j : Fin 14) (k : ℕ) (p : Vec F S1x512x128 .f32) (ix : S14x512x1024.Idx) :
    putSlab T j k p ix = if h : (ix 0).val = j.val ∧ k ≤ (ix 2).val ∧ (ix 2).val < k + 128
      then p (slabIdx (ix 1) ⟨(ix 2).val - k, by omega⟩) else T ix := by
  unfold putSlab VecWindow.put
  by_cases h : (ix 0).val = j.val ∧ k ≤ (ix 2).val ∧ (ix 2).val < k + 128
  · obtain ⟨h0, h1, h2⟩ := h
    have h' : ∀ a, slabOff j k a ≤ (ix a).val ∧ (ix a).val < slabOff j k a + S1x512x128.size a := fun a => by
      match a with
      | ⟨0, _⟩ => exact ⟨by show j.val ≤ (ix 0).val; rw [h0], by show (ix 0).val < j.val + 1; rw [h0]; omega⟩
      | ⟨1, _⟩ => exact ⟨Nat.zero_le _, by have := (ix 1).isLt; show (ix 1).val < 0 + 512; have e : (ix 1).val < 512 := this; omega⟩
      | ⟨2, _⟩ => exact ⟨h1, h2⟩
    rw [dif_pos h', dif_pos ⟨h0, h1, h2⟩]
    congr 1
    funext a
    match a with
    | ⟨0, _⟩ => exact Fin.ext (by show (ix 0).val - j.val = 0; rw [h0]; omega)
    | ⟨1, _⟩ => exact Fin.ext (by show (ix 1).val - 0 = (ix 1).val; omega)
    | ⟨2, _⟩ => rfl
  · rw [dif_neg h, dif_neg]
    intro h'
    refine h ⟨?_, (h' 2).1, (h' 2).2⟩
    have a0 : j.val ≤ (ix 0).val := (h' 0).1
    have a1 : (ix 0).val < j.val + 1 := (h' 0).2
    omega

/-- The tiles other than tile `j` stay as they were. -/
theorem tilesOf_ne (x : Vec F S512x4096 .fp8e4m3) (xl : Vec F S512x128 .f32) (w : Vec F S1024x4096 .fp8e4m3) (ws : Vec F S1x1024 .f32)
    (b : Vec F S1x1024 .bf16) (j : Fin 14) (T : Vec F S14x512x1024 .f32) (ix : S14x512x1024.Idx) (h : (ix 0).val ≠ j.val) :
    tilesOf x xl w ws b j T ix = T ix := by
  simp only [tilesOf, putSlab_apply, h, false_and, dite_false]

/-- Tile `j` itself does not depend on what the tiles held before. -/
theorem tilesOf_eq (x : Vec F S512x4096 .fp8e4m3) (xl : Vec F S512x128 .f32) (w : Vec F S1024x4096 .fp8e4m3) (ws : Vec F S1x1024 .f32)
    (b : Vec F S1x1024 .bf16) (j : Fin 14) (T T' : Vec F S14x512x1024 .f32) (ix : S14x512x1024.Idx) (h : (ix 0).val = j.val) :
    tilesOf x xl w ws b j T ix = tilesOf x xl w ws b j T' ix := by
  have h2 : (ix 2).val < 1024 := (ix 2).isLt
  simp only [tilesOf, putSlab_apply, h, true_and]
  split_ifs <;> first | rfl | omega

/-- Two sets of tiles that agree on tile `j` have the same slabs there, -/
theorem slab_congr (T T' : Vec F S14x512x1024 .f32) (j : Fin 14) (h : ∀ ix : S14x512x1024.Idx, (ix 0).val = j.val → T ix = T' ix) (k : ℕ)
    (hk : k + 128 ≤ 1024) : slab T j k hk = slab T' j k hk := by
  funext z
  unfold slab VecWindow.window
  refine h _ ?_
  have : (z 0).val = 0 := Nat.lt_one_iff.mp (z 0).isLt
  show j.val + 1 * (z 0).val = j.val
  omega

/-- and so the same codes. -/
theorem codesOf_congr (T T' : Vec F S14x512x1024 .f32) (mu : Vec F S512x128 .f32) (j : Fin 14) (q : Vec F S512x1024 .fp8e4m3)
    (h : ∀ ix : S14x512x1024.Idx, (ix 0).val = j.val → T ix = T' ix) : codesOf T mu j q = codesOf T' mu j q := by
  unfold codesOf
  simp only [slab_congr T T' j h]

end Cert.KernelIdeal.Body

end
-- ==== Proof.Exponent.lean ====
/- The exponent of the quantiser. The kernel finds the exponent field of `amax / 448` by eight comparisons with powers of two
   made from integer words; the reference takes the floor of a logarithm. Over the extended reals both give the same
   integer `e`, and the words the kernel builds from it are `2 ^ e` and `2 ^ (-e)`. -/
module

public import Idealize.ShloMosaic.Lib.Pointwise
public import Mathlib.Analysis.SpecialFunctions.Pow.Real
public import Mathlib.Analysis.SpecialFunctions.Log.Basic

@[expose] public section

set_option maxRecDepth 16384

noncomputable section

namespace Cert.Quant

open Idealize.ShloMosaic

/-! ## The words -/

/-- The number whose word has the exponent field `f` and nothing else. -/
def power (f : BitVec 32) : EReal := Ideal.ofBits .f32 (IntOp.shli .vector f 23#32)

/-- One comparison of the search: raise the field by `s` if the power of two there is at most `v`. -/
def step (v : EReal) (s f : BitVec 32) : BitVec 32 :=
  Scalar.select (Ideal.cmp .oge v (power (IntOp.addi f s))) (IntOp.addi f s) f

/-- The field after all eight comparisons. -/
def field (v : EReal) : BitVec 32 :=
  step v 1#32 (step v 2#32 (step v 4#32 (step v 8#32 (step v 16#32 (step v 32#32 (step v 64#32 (step v 128#32 0#32)))))))

/-- The exponent the kernel takes from the field. -/
def kernelExp (v : EReal) : BitVec 32 :=
  Scalar.select (IntOp.ori (IntOp.cmpi .eq (field v) 0#32) (IntOp.cmpi .sge (field v) 253#32)) 0#32 (IntOp.subi (field v) 126#32)

/-- The scale the kernel stores: `2 ^ e` as a word. -/
def scaleWord (v : EReal) : EReal := power (IntOp.addi (kernelExp v) 127#32)

/-- The power in the kernel's multiplier: `2 ^ (-e)` as a word. -/
def mulWord (v : EReal) : EReal := power (IntOp.addi (IntOp.subi 0#32 (kernelExp v)) 127#32)

/-- The exponent the reference takes: the floor of the binary logarithm, plus one, inside the guards, and 0 outside. -/
def refExp (v : EReal) : EReal :=
  Scalar.select (IntOp.andi (Ideal.cmp .oge v (Ideal.ofBits .f32 0x00800000#32)) (Ideal.cmp .olt v (Ideal.ofBits .f32 0x7E800000#32)))
    (Ideal.liftRound Int.floor (Ideal.div (Ideal.log v) ((Real.log 2 : ℝ) : EReal)) + 1) 0

theorem fields : ∀ n : Fin 256,
    (((IntOp.shli .vector (BitVec.ofNat 32 n.val) 23#32).extractLsb' (8 + 23) 1 == 1#1) = false
    ∧ ((IntOp.shli .vector (BitVec.ofNat 32 n.val) 23#32).extractLsb' 23 8).toNat = n.val)
    ∧ ((IntOp.shli .vector (BitVec.ofNat 32 n.val) 23#32).extractLsb' 0 23).toNat = 0 := by
  decide +kernel

theorem power_eq (n : ℕ) (hn : n ≤ 255) :
    power (BitVec.ofNat 32 n) = if n = 255 then ⊤ else if n = 0 then 0 else (((2 : ℝ) ^ ((n : ℤ) - 127) : ℝ) : EReal) := by
  obtain ⟨⟨h1, h2⟩, h3⟩ := fields ⟨n, by omega⟩
  simp only at h1 h2 h3
  unfold power Ideal.ofBits Ideal.ieee
  simp only [h1, h2, h3]
  by_cases h : n = 255
  · simp [h]
  · by_cases h0 : n = 0
    · simp [h0]
    · simp only [h, h0, ↓reduceIte, if_false, Bool.false_eq_true, Nat.reducePow, Nat.reduceSub, Int.reducePow, Int.reduceSub, Nat.add_zero, one_mul]
      rw [EReal.coe_eq_coe_iff]
      have : ((n : ℤ) - 127) = ((n : ℤ) - (2 ^ (8 - 1) - 1) - (23 : ℕ)) + 23 := by norm_num
      rw [this, zpow_add₀ (by norm_num : (2 : ℝ) ≠ 0)]
      norm_num
      ring

theorem power_zero : power 0#32 = 0 := by
  simpa using power_eq 0 (by omega)

theorem power_top : power (BitVec.ofNat 32 255) = ⊤ := by
  simpa using power_eq 255 (by omega)

theorem power_real (n : ℕ) (h0 : 1 ≤ n) (h1 : n ≤ 254) :
    power (BitVec.ofNat 32 n) = (((2 : ℝ) ^ ((n : ℤ) - 127) : ℝ) : EReal) := by
  rw [power_eq n (by omega), if_neg (by omega), if_neg (by omega)]

/-- The lower guard of the reference. -/
theorem guard_low : Ideal.ofBits .f32 0x00800000#32 = (((2 : ℝ) ^ (-126 : ℤ) : ℝ) : EReal) := by
  have h := power_real 1 (by omega) (by omega)
  have e : IntOp.shli .vector (BitVec.ofNat 32 1) 23#32 = 0x00800000#32 := by decide +kernel
  unfold power at h
  rw [e] at h
  rw [h]; norm_num

/-- The upper guard of the reference. -/
theorem guard_high : Ideal.ofBits .f32 0x7E800000#32 = (((2 : ℝ) ^ (126 : ℤ) : ℝ) : EReal) := by
  have h := power_real 253 (by omega) (by omega)
  have e : IntOp.shli .vector (BitVec.ofNat 32 253) 23#32 = 0x7E800000#32 := by decide +kernel
  unfold power at h
  rw [e] at h
  rw [h]; norm_num

/-! ## The search -/

/-- What holds of the field `n` when the next comparisons can still raise it by less than `w`. -/
def Between (v : EReal) (w n : ℕ) : Prop :=
  n + w ≤ 256 ∧ power (BitVec.ofNat 32 n) ≤ v ∧ (n + w < 256 → v < power (BitVec.ofNat 32 (n + w)))

theorem step_between (v : EReal) (s n : ℕ) (h : Between v (s + s) n) :
    ∃ n', step v (BitVec.ofNat 32 s) (BitVec.ofNat 32 n) = BitVec.ofNat 32 n' ∧ Between v s n' := by
  obtain ⟨hw, hl, hr⟩ := h
  have ha : IntOp.addi (BitVec.ofNat 32 n) (BitVec.ofNat 32 s) = BitVec.ofNat 32 (n + s) := by
    simp [IntOp.addi, BitVec.ofNat_add]
  unfold step
  rw [ha]
  unfold Ideal.cmp
  rw [Scalar.select_decide]
  by_cases hc : power (BitVec.ofNat 32 (n + s)) ≤ v
  · exact ⟨n + s, if_pos hc, by omega, hc, fun h => by rw [Nat.add_assoc]; exact hr (by omega)⟩
  · exact ⟨n, if_neg hc, by omega, hl, fun _ => not_le.1 hc⟩

/-- The search ends at the field whose power of two is the last one not above `v`. -/
theorem field_spec (v : EReal) (hv : 0 ≤ v) : ∃ n, field v = BitVec.ofNat 32 n ∧ Between v 1 n := by
  have h0 : Between v (128 + 128) 0 := ⟨by omega, by rw [power_zero]; exact hv, fun h => absurd h (by omega)⟩
  obtain ⟨n1, e1, h1⟩ := step_between v 128 0 h0
  obtain ⟨n2, e2, h2⟩ := step_between v 64 n1 h1
  obtain ⟨n3, e3, h3⟩ := step_between v 32 n2 h2
  obtain ⟨n4, e4, h4⟩ := step_between v 16 n3 h3
  obtain ⟨n5, e5, h5⟩ := step_between v 8 n4 h4
  obtain ⟨n6, e6, h6⟩ := step_between v 4 n5 h5
  obtain ⟨n7, e7, h7⟩ := step_between v 2 n6 h6
  obtain ⟨n8, e8, h8⟩ := step_between v 1 n7 h7
  refine ⟨n8, ?_, h8⟩
  rw [field, e1, e2, e3, e4, e5, e6, e7, e8]

/-- The kernel's exponent of a field, decided over all fields: 0 at the special ones. -/
theorem exps : ∀ n : Fin 256, Scalar.select (IntOp.ori (IntOp.cmpi .eq (BitVec.ofNat 32 n.val) 0#32) (IntOp.cmpi .sge (BitVec.ofNat 32 n.val) 253#32)) 0#32
      (IntOp.subi (BitVec.ofNat 32 n.val) 126#32)
    = if n.val = 0 ∨ 253 ≤ n.val then 0#32 else BitVec.ofNat 32 n.val - 126#32 := by
  decide +kernel

theorem plus_bias : ∀ n : Fin 253, IntOp.addi (BitVec.ofNat 32 n.val - 126#32) 127#32 = BitVec.ofNat 32 (n.val + 1) := by
  decide +kernel

theorem minus_bias : ∀ n : Fin 253, IntOp.addi (IntOp.subi 0#32 (BitVec.ofNat 32 n.val - 126#32)) 127#32 = BitVec.ofNat 32 (253 - n.val) := by
  decide +kernel

/-! ## The logarithm -/

/-- The floor of the binary logarithm of a real between two powers of two. -/
theorem floor_log (r : ℝ) (k : ℤ) (hl : (2 : ℝ) ^ k ≤ r) (hr : r < (2 : ℝ) ^ (k + 1)) :
    Ideal.liftRound Int.floor (Ideal.div (Ideal.log (r : EReal)) ((Real.log 2 : ℝ) : EReal)) = ((k : ℝ) : EReal) := by
  have hp : (0 : ℝ) < 2 ^ k := zpow_pos (by norm_num) k
  have hr0 : 0 < r := lt_of_lt_of_le hp hl
  have h2 : 0 < Real.log 2 := Real.log_pos (by norm_num)
  have e1 : Ideal.log (r : EReal) = ((Real.log r : ℝ) : EReal) := if_neg (not_le.2 hr0)
  rw [e1, Ideal.div_coe h2.ne', ← EReal.coe_mul]
  show ((⌊Real.log r * (1 / Real.log 2)⌋ : ℝ) : EReal) = _
  have : ⌊Real.log r * (1 / Real.log 2)⌋ = k := by
    rw [Int.floor_eq_iff, mul_one_div, le_div_iff₀ h2, div_lt_iff₀ h2]
    constructor
    · have := Real.log_le_log hp hl
      rwa [Real.log_zpow] at this
    · have := Real.log_lt_log hr0 hr
      rw [Real.log_zpow] at this
      exact_mod_cast this
  rw [this]

theorem exp2_int (k : ℤ) : Ideal.exp2 ((k : ℝ) : EReal) = (((2 : ℝ) ^ k : ℝ) : EReal) := by
  show ((Real.rpow 2 (k : ℝ) : ℝ) : EReal) = _
  rw [show Real.rpow 2 (k : ℝ) = (2 : ℝ) ^ (k : ℝ) from rfl, Real.rpow_intCast]

/-! ## The two exponents agree -/

/-- One integer `e` is the reference's exponent, and the kernel's words are `2 ^ e` and `2 ^ (-e)`. -/
theorem exponent (v : EReal) (hv : 0 ≤ v) :
    ∃ e : ℤ, refExp v = ((e : ℝ) : EReal) ∧ scaleWord v = (((2 : ℝ) ^ e : ℝ) : EReal) ∧ mulWord v = (((2 : ℝ) ^ (-e) : ℝ) : EReal) := by
  obtain ⟨n, hf, hw, hl, hr⟩ := field_spec v hv
  have hk : kernelExp v = if n = 0 ∨ 253 ≤ n then 0#32 else BitVec.ofNat 32 n - 126#32 := by
    rw [kernelExp, hf]; exact exps ⟨n, by omega⟩
  have href : refExp v = if (((2 : ℝ) ^ (-126 : ℤ) : ℝ) : EReal) ≤ v ∧ v < (((2 : ℝ) ^ (126 : ℤ) : ℝ) : EReal)
      then Ideal.liftRound Int.floor (Ideal.div (Ideal.log v) ((Real.log 2 : ℝ) : EReal)) + 1 else 0 := by
    rw [refExp, guard_low, guard_high]
    unfold Ideal.cmp
    simp only
    by_cases h1 : (((2 : ℝ) ^ (-126 : ℤ) : ℝ) : EReal) ≤ v
    · by_cases h2 : v < (((2 : ℝ) ^ (126 : ℤ) : ℝ) : EReal)
      · rw [if_pos ⟨h1, h2⟩, decide_eq_true h1, decide_eq_true h2]; rfl
      · rw [if_neg (fun h => h2 h.2), decide_eq_true h1, decide_eq_false h2]; rfl
    · rw [if_neg (fun h => h1 h.1), decide_eq_false h1]
      by_cases h2 : v < (((2 : ℝ) ^ (126 : ℤ) : ℝ) : EReal)
      · rw [decide_eq_true h2]; rfl
      · rw [decide_eq_false h2]; rfl
  by_cases hs : n = 0 ∨ 253 ≤ n
  · rw [if_pos hs] at hk
    refine ⟨0, ?_, ?_, ?_⟩
    · rw [href, if_neg]
      · simp
      · rintro ⟨ha, hb⟩
        rcases hs with h0 | h0
        · subst h0
          have := hr (by omega)
          rw [show (0 + 1) = 1 from rfl, power_real 1 (by omega) (by omega)] at this
          norm_num at this ha
          exact absurd this (not_lt.2 ha)
        · rw [power_eq n (by omega)] at hl
          split_ifs at hl with h1 h2
          · exact absurd (lt_of_le_of_lt hl hb) (not_lt.2 le_top)
          · omega
          · have h3 := lt_of_le_of_lt hl hb
            rw [EReal.coe_lt_coe_iff] at h3
            exact absurd h3 (not_lt.2 (zpow_le_zpow_right₀ (by norm_num) (by omega)))
    · rw [scaleWord, hk, show IntOp.addi 0#32 127#32 = BitVec.ofNat 32 127 from by decide, power_real 127 (by omega) (by omega)]
      norm_num
    · rw [mulWord, hk, show IntOp.addi (IntOp.subi 0#32 0#32) 127#32 = BitVec.ofNat 32 127 from by decide, power_real 127 (by omega) (by omega)]
      norm_num
  · rw [if_neg hs] at hk
    have hn1 : 1 ≤ n := by omega
    have hn2 : n ≤ 252 := by omega
    rw [power_real n hn1 (by omega)] at hl
    have hr' := hr (by omega)
    rw [power_real (n + 1) (by omega) (by omega)] at hr'
    have hvr : ∃ r : ℝ, v = (r : EReal) := by
      refine ⟨v.toReal, (EReal.coe_toReal ?_ ?_).symm⟩
      · exact ne_of_lt (lt_trans hr' (EReal.coe_lt_top _))
      · exact ne_of_gt (lt_of_lt_of_le (EReal.bot_lt_coe _) hl)
    obtain ⟨r, rfl⟩ := hvr
    rw [EReal.coe_le_coe_iff] at hl
    rw [EReal.coe_lt_coe_iff] at hr'
    refine ⟨(n : ℤ) - 126, ?_, ?_, ?_⟩
    · rw [href, if_pos, floor_log r ((n : ℤ) - 127) hl (by convert hr' using 2; push_cast; ring)]
      · rw [show (1 : EReal) = ((1 : ℝ) : EReal) from rfl, ← EReal.coe_add, EReal.coe_eq_coe_iff]; push_cast; ring
      · rw [EReal.coe_le_coe_iff, EReal.coe_lt_coe_iff]
        exact ⟨le_trans (zpow_le_zpow_right₀ (by norm_num) (by omega)) hl,
          lt_of_lt_of_le hr' (zpow_le_zpow_right₀ (by norm_num) (by omega))⟩
    · rw [scaleWord, hk]
      have := plus_bias ⟨n, by omega⟩
      simp only at this
      rw [this, power_real (n + 1) (by omega) (by omega)]
      congr 2; push_cast; ring
    · rw [mulWord, hk]
      have := minus_bias ⟨n, by omega⟩
      simp only at this
      rw [this, power_real (253 - n) (by omega) (by omega)]
      congr 2; omega

/-- The scale, as the reference computes it. -/
theorem scale_eq (v : EReal) (hv : 0 ≤ v) : scaleWord v = Ideal.exp2 (refExp v) := by
  obtain ⟨e, h1, h2, -⟩ := exponent v hv
  rw [h1, h2, exp2_int]

/-- The power of the multiplier, as the reference computes it. -/
theorem mul_eq (v : EReal) (hv : 0 ≤ v) : mulWord v = Ideal.exp2 (0 - refExp v) := by
  obtain ⟨e, h1, -, h3⟩ := exponent v hv
  rw [h1, h3, zero_sub, ← EReal.coe_neg, ← Int.cast_neg, exp2_int]

end Cert.Quant
-- ==== Proof.Gelu.lean ====
/- The arithmetic of one row, over the extended reals. The kernel works on arguments scaled by the square root of one half: its
   entry `t` of a tile is the exact GELU `g` divided by that root, its row maximum likewise, and its multiplier carries the root
   back in. So its scale and its codes are those of the plain formula. -/
module

public import proofs.«01_k».proof.Proof.Exponent

@[expose] public section

set_option maxRecDepth 16384

noncomputable section

namespace Cert.Quant

open Idealize.ShloMosaic

/-- The square root of one half. -/
def half : EReal := (((Real.sqrt 2)⁻¹ : ℝ) : EReal)

/-- The kernel's activation, of an argument already scaled by the square root of one half. -/
def act (z : EReal) : EReal := z * (1 + Ideal.erf z)

/-- The absolute value, as the programs take it. -/
def absE (a : EReal) : EReal := max a (-a)

/-- One code: an entry times a multiplier, clipped (the cast to fp8 is the identity here). -/
def codeAt (t u : EReal) : EReal := min (Ideal.ofBits .f32 0x43E00000#32) (max (Ideal.ofBits .f32 0xC3E00000#32) (t * u))

/-- The largest of a row of values. -/
def rowMax {n : ℕ} (f : Fin n → EReal) : EReal := Finset.univ.fold max (Ideal.ofBits .f32 0xFF800000#32) f

/-- The exact GELU, as the reference writes it. -/
def gelu (h : EReal) : EReal := Ideal.ofBits .f32 0x3F000000#32 * h * (1 + Ideal.erf (h * half))

/-- The constant by which a row maximum is multiplied. -/
def perMax : EReal := Ideal.ofBits .f32 0x3B124925#32

/-! ## The constants -/

theorem half_pos : 0 < half := by
  unfold half
  rw [EReal.coe_pos]
  positivity

theorem half_ne_top : half ≠ ⊤ := EReal.coe_ne_top _

theorem half_mul_half : half * half = Ideal.ofBits .f32 0x3F000000#32 := by
  have h : Ideal.ofBits .f32 0x3F000000#32 = ((1 / 2 : ℝ) : EReal) := by
    simp [Ideal.ofBits, Ideal.ieee, -EReal.coe_mul]
    norm_num
  rw [h, half, ← EReal.coe_mul, EReal.coe_eq_coe_iff, ← mul_inv, Real.mul_self_sqrt (by norm_num)]
  norm_num

theorem minus_inf : Ideal.ofBits .f32 0xFF800000#32 = ⊥ := by
  simp [Ideal.ofBits, Ideal.ieee]

theorem perMax_nonneg : 0 ≤ perMax := by
  unfold perMax
  have h : ∃ r : ℝ, 0 ≤ r ∧ Ideal.ofBits .f32 0x3B124925#32 = (r : EReal) := by
    refine ⟨9586981 * 2 ^ (-32 : ℤ), by positivity, ?_⟩
    simp [Ideal.ofBits, Ideal.ieee, -EReal.coe_mul]
  obtain ⟨r, hr, e⟩ := h
  rw [e]
  exact_mod_cast hr

/-! ## The entries -/

/-- The kernel's entry times the root is the GELU of the plain argument. -/
theorem act_mul_half (a ws b : EReal) : act (a * (ws * half) + b * half) * half = gelu (a * ws + b) := by
  have e : a * (ws * half) + b * half = (a * ws + b) * half := by
    rw [EReal.right_distrib_of_nonneg_of_ne_top half_pos.le half_ne_top, mul_assoc]
  rw [e, act, gelu, ← half_mul_half]
  ac_nf

theorem mul_half_mono : Monotone fun a : EReal => a * half := fun _ _ h => mul_le_mul_of_nonneg_right h half_pos.le

theorem absE_mul_half (a : EReal) : absE a * half = absE (a * half) := by
  unfold absE
  rw [mul_half_mono.map_max, ← EReal.neg_mul]

theorem absE_nonneg (a : EReal) : 0 ≤ absE a := by
  unfold absE
  rcases le_total 0 a with h | h
  · exact le_max_of_le_left h
  · exact le_max_of_le_right (EReal.neg_nonneg.2 h)

/-- The row maximum commutes with the root. -/
theorem rowMax_mul_half {n : ℕ} (f : Fin n → EReal) : rowMax f * half = rowMax fun i => f i * half := by
  unfold rowMax
  have hb : Ideal.ofBits .f32 0xFF800000#32 * half = Ideal.ofBits .f32 0xFF800000#32 := by
    rw [minus_inf]; exact EReal.bot_mul_of_pos half_pos
  have := Finset.fold_hom (op := max) (op' := max) (s := Finset.univ) (f := f) (b := Ideal.ofBits .f32 0xFF800000#32)
    (m := fun a : EReal => a * half) (fun x y => mul_half_mono.map_max)
  rw [hb] at this
  exact this.symm

theorem rowMax_le {n : ℕ} (f : Fin n → EReal) (B : EReal) : rowMax f ≤ B ↔ ∀ i, f i ≤ B := by
  unfold rowMax
  rw [Finset.fold_max_le, minus_inf]
  simp

theorem rowMax_nonneg {n : ℕ} (f : Fin (n + 1) → EReal) : 0 ≤ rowMax fun i => absE (f i) := by
  unfold rowMax
  rw [Finset.le_fold_max]
  exact Or.inr ⟨0, Finset.mem_univ _, absE_nonneg _⟩

/-! ## One row -/

variable {n : ℕ} (a ws b : Fin (n + 1) → EReal)

/-- What the exponent is taken of is the same number in both programs. -/
theorem arg_eq : rowMax (fun i => absE (act (a i * (ws i * half) + b i * half))) * half * perMax
    = rowMax (fun i => absE (gelu (a i * ws i + b i))) * perMax := by
  rw [rowMax_mul_half]
  congr 2
  funext i
  rw [absE_mul_half, act_mul_half]

theorem arg_nonneg : 0 ≤ rowMax (fun i => absE (gelu (a i * ws i + b i))) * perMax :=
  mul_nonneg (rowMax_nonneg _) perMax_nonneg

/-- The kernel's scale is the reference's. -/
theorem row_scale : scaleWord (rowMax (fun i => absE (act (a i * (ws i * half) + b i * half))) * half * perMax)
    = Ideal.exp2 (refExp (rowMax (fun i => absE (gelu (a i * ws i + b i))) * perMax)) := by
  rw [arg_eq, scale_eq _ (arg_nonneg a ws b)]

/-- The kernel's code is the reference's. -/
theorem row_code (i : Fin (n + 1)) :
    codeAt (act (a i * (ws i * half) + b i * half))
        (mulWord (rowMax (fun i => absE (act (a i * (ws i * half) + b i * half))) * half * perMax) * half)
      = codeAt (gelu (a i * ws i + b i)) (Ideal.exp2 (0 - refExp (rowMax (fun i => absE (gelu (a i * ws i + b i))) * perMax))) := by
  rw [arg_eq, mul_eq _ (arg_nonneg a ws b), ← act_mul_half]
  unfold codeAt
  rw [mul_comm (Ideal.exp2 _) half, ← mul_assoc]

end Cert.Quant

end
-- ==== Proof.BodyIdeal.lean ====
/- What one run of the kernel body computes, read element by element over the extended reals: an entry of the tile, the
   maximum per lane, the codes, the scale and the multiplier. -/
module

public import proofs.«01_k».proof.Proof.Gen.KernelIdeal.Skeleton
public import proofs.«01_k».proof.Proof.BodyVals
public import proofs.«01_k».proof.Proof.BodyAgree
public import proofs.«01_k».proof.Proof.Gelu
public import Idealize.ShloMosaic.Lib.Pointwise

@[expose] public section

set_option maxRecDepth 16384

noncomputable section

namespace Cert.KernelIdeal.Body

open Cert.KernelIdeal Cert.KernelIdeal.Gen Cert.Quant
open Idealize.ShloMosaic Idealize.ShloMosaic.TcCoe

theorem named_half : (Named.named κ "sqrt_half" (φ := .f32) 0x3F3504F3#32 : Ideal .f32) = half :=
  IdealRules.named_const.ideal_named_scalar _ _ _ _ rfl

/-- The entry of a tile at row `r`, lane `l` and column `col`. -/
def tileAt (x : FVec Ideal S512x4096 .fp8e4m3) (xl : FVec Ideal S512x128 .f32) (w : FVec Ideal S1024x4096 .fp8e4m3) (ws : FVec Ideal S1x1024 .f32)
    (b : FVec Ideal S1x1024 .bf16) (r : Fin 512) (l : Fin 128) (col : Fin 1024) : EReal :=
  act ((∑ k : Fin 4096, x (ix2 r k) * w (ix2 col k)) * xl (ix2 r l) * (ws (ix2 0 col) * half) + b (ix2 0 col) * half)

variable (x : FVec Ideal S512x4096 .fp8e4m3) (xl : FVec Ideal S512x128 .f32) (w : FVec Ideal S1024x4096 .fp8e4m3) (ws : FVec Ideal S1x1024 .f32)
  (b : FVec Ideal S1x1024 .bf16) (r : Fin 512) (l : Fin 128)

/-! ## The eight chunks of 128 columns of one tile -/

/-! ## The eight chunks of 128 columns of one tile -/

theorem chunk0 : k0_pay30 (F := Ideal) (k0_pay26 x w) (k0_pay27 ws) (k0_pay28 b) xl (ix2 r l) = tileAt x xl w ws b r l ⟨0 + l, by omega⟩ := by
  pointwise [k0_pay30, k0_pay26, k0_pay27, k0_pay28, k0_pay29, tileAt, act, named_half]
  rfl

theorem chunk1 : k0_pay32 (F := Ideal) (k0_pay26 x w) (k0_pay27 ws) (k0_pay28 b) xl (ix2 r l) = tileAt x xl w ws b r l ⟨128 + l, by omega⟩ := by
  pointwise [k0_pay32, k0_pay26, k0_pay27, k0_pay28, k0_pay29, tileAt, act, named_half]
  rfl

theorem chunk2 : k0_pay36 (F := Ideal) (k0_pay27 ws) (k0_pay29 (k0_pay28 b)) (k0_pay35 (k0_pay26 x w)) xl (ix2 r l) = tileAt x xl w ws b r l ⟨256 + l, by omega⟩ := by
  pointwise [k0_pay36, k0_pay35, k0_pay26, k0_pay27, k0_pay28, k0_pay29, tileAt, act, named_half]
  rfl

theorem chunk3 : k0_pay38 (F := Ideal) (k0_pay26 x w) (k0_pay27 ws) (k0_pay29 (k0_pay28 b)) xl (ix2 r l) = tileAt x xl w ws b r l ⟨384 + l, by omega⟩ := by
  pointwise [k0_pay38, k0_pay26, k0_pay27, k0_pay28, k0_pay29, tileAt, act, named_half]
  rfl

theorem chunk4 : k0_pay43 (F := Ideal) (k0_pay41 (k0_pay26 x w) (k0_pay27 ws) (k0_pay29 (k0_pay28 b)) xl) (k0_pay42 (k0_pay26 x w) (k0_pay27 ws) (k0_pay29 (k0_pay28 b)) xl) (Scalar.ofBits .f32 0x3F800000#32) (ix2 r l) = tileAt x xl w ws b r l ⟨512 + l, by omega⟩ := by
  pointwise [k0_pay43, k0_pay41, k0_pay42, k0_pay26, k0_pay27, k0_pay28, k0_pay29, tileAt, act, named_half]
  rfl

theorem chunk5 : k0_pay45 (F := Ideal) (k0_pay26 x w) (k0_pay27 ws) (k0_pay29 (k0_pay28 b)) xl (ix2 r l) = tileAt x xl w ws b r l ⟨640 + l, by omega⟩ := by
  pointwise [k0_pay45, k0_pay26, k0_pay27, k0_pay28, k0_pay29, tileAt, act, named_half]
  rfl

theorem chunk6 : k0_pay48 (F := Ideal) (k0_pay26 x w) (k0_pay27 ws) (k0_pay29 (k0_pay28 b)) xl (ix2 r l) = tileAt x xl w ws b r l ⟨768 + l, by omega⟩ := by
  pointwise [k0_pay48, k0_pay26, k0_pay27, k0_pay28, k0_pay29, tileAt, act, named_half]
  rfl

theorem chunk7 : k0_pay6 (F := Ideal) (k0_pay26 x w) (k0_pay27 ws) (k0_pay29 (k0_pay28 b)) xl (ix2 r l) = tileAt x xl w ws b r l ⟨896 + l, by omega⟩ := by
  pointwise [k0_pay6, k0_pay26, k0_pay27, k0_pay28, k0_pay29, tileAt, act, named_half]
  rfl

theorem slab0 : k0_pay31 (F := Ideal) (k0_pay26 x w) (k0_pay27 ws) (k0_pay28 b) xl (ix3 0 r l) = tileAt x xl w ws b r l ⟨0 + l, by omega⟩ := by
  refine Eq.trans ?_ (chunk0 x xl w ws b r l)
  pointwise [k0_pay31]

theorem slab1 : k0_pay33 (F := Ideal) (k0_pay26 x w) (k0_pay27 ws) (k0_pay28 b) xl (ix3 0 r l) = tileAt x xl w ws b r l ⟨128 + l, by omega⟩ := by
  refine Eq.trans ?_ (chunk1 x xl w ws b r l)
  pointwise [k0_pay33]

theorem slab2 : k0_pay37 (F := Ideal) (k0_pay27 ws) (k0_pay29 (k0_pay28 b)) (k0_pay35 (k0_pay26 x w)) xl (ix3 0 r l) = tileAt x xl w ws b r l ⟨256 + l, by omega⟩ := by
  refine Eq.trans ?_ (chunk2 x xl w ws b r l)
  pointwise [k0_pay37]

theorem slab3 : k0_pay39 (F := Ideal) (k0_pay26 x w) (k0_pay27 ws) (k0_pay29 (k0_pay28 b)) xl (ix3 0 r l) = tileAt x xl w ws b r l ⟨384 + l, by omega⟩ := by
  refine Eq.trans ?_ (chunk3 x xl w ws b r l)
  pointwise [k0_pay39]

theorem slab4 : k0_pay44 (F := Ideal) (k0_pay41 (k0_pay26 x w) (k0_pay27 ws) (k0_pay29 (k0_pay28 b)) xl) (k0_pay42 (k0_pay26 x w) (k0_pay27 ws) (k0_pay29 (k0_pay28 b)) xl) (Scalar.ofBits .f32 0x3F800000#32) (ix3 0 r l) = tileAt x xl w ws b r l ⟨512 + l, by omega⟩ := by
  refine Eq.trans ?_ (chunk4 x xl w ws b r l)
  pointwise [k0_pay44]

theorem slab5 : k0_pay46 (F := Ideal) (k0_pay26 x w) (k0_pay27 ws) (k0_pay29 (k0_pay28 b)) xl (ix3 0 r l) = tileAt x xl w ws b r l ⟨640 + l, by omega⟩ := by
  refine Eq.trans ?_ (chunk5 x xl w ws b r l)
  pointwise [k0_pay46]

theorem slab6 : k0_pay49 (F := Ideal) (k0_pay26 x w) (k0_pay27 ws) (k0_pay29 (k0_pay28 b)) xl (ix3 0 r l) = tileAt x xl w ws b r l ⟨768 + l, by omega⟩ := by
  refine Eq.trans ?_ (chunk6 x xl w ws b r l)
  pointwise [k0_pay49]

theorem slab7 : k0_pay7 (F := Ideal) (k0_pay26 x w) (k0_pay27 ws) (k0_pay29 (k0_pay28 b)) xl (ix3 0 r l) = tileAt x xl w ws b r l ⟨896 + l, by omega⟩ := by
  refine Eq.trans ?_ (chunk7 x xl w ws b r l)
  pointwise [k0_pay7]

/-! ## One tile put into the row of tiles -/

theorem putSlab_hit (T : FVec Ideal S14x512x1024 .f32) (j : Fin 14) (k : ℕ) (p : FVec Ideal S1x512x128 .f32) (col : Fin 1024)
    (h1 : k ≤ col.val) (h2 : col.val < k + 128) : putSlab (F := Ideal) T j k p (ix3 j r col) = p (ix3 0 r ⟨col.val - k, by omega⟩) := by
  rw [putSlab_apply, dif_pos ⟨rfl, h1, h2⟩]
  refine congrArg p (funext fun a => ?_)
  match a with
  | ⟨0, _⟩ => rfl
  | ⟨1, _⟩ => rfl
  | ⟨2, _⟩ => rfl

theorem putSlab_miss (T : FVec Ideal S14x512x1024 .f32) (j : Fin 14) (k : ℕ) (p : FVec Ideal S1x512x128 .f32) (col : Fin 1024)
    (h : col.val < k ∨ k + 128 ≤ col.val) : putSlab (F := Ideal) T j k p (ix3 j r col) = T (ix3 j r col) := by
  rw [putSlab_apply, dif_neg]
  rintro ⟨-, h1, h2⟩
  have h1' : k ≤ col.val := h1
  have h2' : col.val < k + 128 := h2
  omega

theorem tileAt_congr (l l' : Fin 128) (col col' : Fin 1024) (hl : l.val = l'.val) (hc : col.val = col'.val) :
    tileAt x xl w ws b r l col = tileAt x xl w ws b r l' col' := by
  rw [Fin.ext hl, Fin.ext hc]

/-- An entry of the tile just computed. -/
theorem tilesOf_at (j : Fin 14) (T : FVec Ideal S14x512x1024 .f32) (col : Fin 1024) :
    tilesOf (F := Ideal) x xl w ws b j T (ix3 j r col) = tileAt x xl w ws b r ⟨col.val % 128, by omega⟩ col := by
  unfold tilesOf
  have hcol := col.isLt
  by_cases h7 : 896 ≤ col.val
  · rw [putSlab_hit _ _ _ _ _ _ (by omega) (by omega)]
    refine (slab7 x xl w ws b r _).trans (tileAt_congr x xl w ws b r _ _ _ _ ?_ ?_)
    · show col.val - 896 = col.val % 128; omega
    · show 896 + (col.val - 896) = col.val; omega
  by_cases h6 : 768 ≤ col.val
  · rw [putSlab_miss _ _ _ _ _ _ (by omega)]; rw [putSlab_hit _ _ _ _ _ _ (by omega) (by omega)]
    refine (slab6 x xl w ws b r _).trans (tileAt_congr x xl w ws b r _ _ _ _ ?_ ?_)
    · show col.val - 768 = col.val % 128; omega
    · show 768 + (col.val - 768) = col.val; omega
  by_cases h5 : 640 ≤ col.val
  · rw [putSlab_miss _ _ _ _ _ _ (by omega)]; rw [putSlab_miss _ _ _ _ _ _ (by omega)]; rw [putSlab_hit _ _ _ _ _ _ (by omega) (by omega)]
    refine (slab5 x xl w ws b r _).trans (tileAt_congr x xl w ws b r _ _ _ _ ?_ ?_)
    · show col.val - 640 = col.val % 128; omega
    · show 640 + (col.val - 640) = col.val; omega
  by_cases h4 : 512 ≤ col.val
  · rw [putSlab_miss _ _ _ _ _ _ (by omega)]; rw [putSlab_miss _ _ _ _ _ _ (by omega)]; rw [putSlab_miss _ _ _ _ _ _ (by omega)]; rw [putSlab_hit _ _ _ _ _ _ (by omega) (by omega)]
    refine (slab4 x xl w ws b r _).trans (tileAt_congr x xl w ws b r _ _ _ _ ?_ ?_)
    · show col.val - 512 = col.val % 128; omega
    · show 512 + (col.val - 512) = col.val; omega
  by_cases h3 : 384 ≤ col.val
  · rw [putSlab_miss _ _ _ _ _ _ (by omega)]; rw [putSlab_miss _ _ _ _ _ _ (by omega)]; rw [putSlab_miss _ _ _ _ _ _ (by omega)]; rw [putSlab_miss _ _ _ _ _ _ (by omega)]; rw [putSlab_hit _ _ _ _ _ _ (by omega) (by omega)]
    refine (slab3 x xl w ws b r _).trans (tileAt_congr x xl w ws b r _ _ _ _ ?_ ?_)
    · show col.val - 384 = col.val % 128; omega
    · show 384 + (col.val - 384) = col.val; omega
  by_cases h2 : 256 ≤ col.val
  · rw [putSlab_miss _ _ _ _ _ _ (by omega)]; rw [putSlab_miss _ _ _ _ _ _ (by omega)]; rw [putSlab_miss _ _ _ _ _ _ (by omega)]; rw [putSlab_miss _ _ _ _ _ _ (by omega)]; rw [putSlab_miss _ _ _ _ _ _ (by omega)]; rw [putSlab_hit _ _ _ _ _ _ (by omega) (by omega)]
    refine (slab2 x xl w ws b r _).trans (tileAt_congr x xl w ws b r _ _ _ _ ?_ ?_)
    · show col.val - 256 = col.val % 128; omega
    · show 256 + (col.val - 256) = col.val; omega
  by_cases h1 : 128 ≤ col.val
  · rw [putSlab_miss _ _ _ _ _ _ (by omega)]; rw [putSlab_miss _ _ _ _ _ _ (by omega)]; rw [putSlab_miss _ _ _ _ _ _ (by omega)]; rw [putSlab_miss _ _ _ _ _ _ (by omega)]; rw [putSlab_miss _ _ _ _ _ _ (by omega)]; rw [putSlab_miss _ _ _ _ _ _ (by omega)]; rw [putSlab_hit _ _ _ _ _ _ (by omega) (by omega)]
    refine (slab1 x xl w ws b r _).trans (tileAt_congr x xl w ws b r _ _ _ _ ?_ ?_)
    · show col.val - 128 = col.val % 128; omega
    · show 128 + (col.val - 128) = col.val; omega
  rw [putSlab_miss _ _ _ _ _ _ (by omega)]; rw [putSlab_miss _ _ _ _ _ _ (by omega)]; rw [putSlab_miss _ _ _ _ _ _ (by omega)]; rw [putSlab_miss _ _ _ _ _ _ (by omega)]; rw [putSlab_miss _ _ _ _ _ _ (by omega)]; rw [putSlab_miss _ _ _ _ _ _ (by omega)]; rw [putSlab_miss _ _ _ _ _ _ (by omega)]; rw [putSlab_hit _ _ _ _ _ _ (by omega) (by omega)]
  refine (slab0 x xl w ws b r _).trans (tileAt_congr x xl w ws b r _ _ _ _ ?_ ?_)
  · show col.val - 0 = col.val % 128; omega
  · show 0 + (col.val - 0) = col.val; omega

/-! ## The maximum per lane -/

theorem maxOf_at (mx : FVec Ideal S512x128 .f32) :
    maxOf (F := Ideal) x xl w ws b mx (ix2 r l) = max (max (max (max (max (max (max (max (mx (ix2 r l))
      (absE (tileAt x xl w ws b r l ⟨0 + l, by omega⟩)))
      (absE (tileAt x xl w ws b r l ⟨128 + l, by omega⟩)))
      (absE (tileAt x xl w ws b r l ⟨256 + l, by omega⟩)))
      (absE (tileAt x xl w ws b r l ⟨384 + l, by omega⟩)))
      (absE (tileAt x xl w ws b r l ⟨512 + l, by omega⟩)))
      (absE (tileAt x xl w ws b r l ⟨640 + l, by omega⟩)))
      (absE (tileAt x xl w ws b r l ⟨768 + l, by omega⟩)))
      (absE (tileAt x xl w ws b r l ⟨896 + l, by omega⟩)) := by
  rw [← chunk0 x xl w ws b r l, ← chunk1 x xl w ws b r l, ← chunk2 x xl w ws b r l, ← chunk3 x xl w ws b r l, ← chunk4 x xl w ws b r l, ← chunk5 x xl w ws b r l, ← chunk6 x xl w ws b r l, ← chunk7 x xl w ws b r l]
  pointwise [maxOf, k0_pay8, k0_pay47, k0_pay40, k0_pay34]
  rfl

/-- A bound on the maximum per lane: on what was there and on the tile's entries in that lane. -/
theorem maxOf_le (mx : FVec Ideal S512x128 .f32) (B : EReal) :
    maxOf (F := Ideal) x xl w ws b mx (ix2 r l) ≤ B
      ↔ mx (ix2 r l) ≤ B ∧ ∀ col : Fin 1024, col.val % 128 = l.val → absE (tileAt x xl w ws b r l col) ≤ B := by
  rw [maxOf_at]
  simp only [max_le_iff]
  constructor
  · rintro ⟨⟨⟨⟨⟨⟨⟨⟨h, h0⟩, h1⟩, h2⟩, h3⟩, h4⟩, h5⟩, h6⟩, h7⟩
    refine ⟨h, fun col hc => ?_⟩
    have hcol := col.isLt
    have key : ∀ (n : ℕ) (hn : n + l.val < 1024), col.val = n + l.val → absE (tileAt x xl w ws b r l ⟨n + l, hn⟩) ≤ B →
        absE (tileAt x xl w ws b r l col) ≤ B := fun n hn e hB => by
      rw [tileAt_congr x xl w ws b r l l col ⟨n + l, hn⟩ rfl e]; exact hB
    have hq : col.val / 128 < 8 := by omega
    obtain h' | h' | h' | h' | h' | h' | h' | h' : col.val / 128 = 0 ∨ col.val / 128 = 1 ∨ col.val / 128 = 2 ∨ col.val / 128 = 3
      ∨ col.val / 128 = 4 ∨ col.val / 128 = 5 ∨ col.val / 128 = 6 ∨ col.val / 128 = 7 := by omega
    · exact key 0 (by omega) (by omega) h0
    · exact key 128 (by omega) (by omega) h1
    · exact key 256 (by omega) (by omega) h2
    · exact key 384 (by omega) (by omega) h3
    · exact key 512 (by omega) (by omega) h4
    · exact key 640 (by omega) (by omega) h5
    · exact key 768 (by omega) (by omega) h6
    · exact key 896 (by omega) (by omega) h7
  · rintro ⟨h, hall⟩
    exact ⟨⟨⟨⟨⟨⟨⟨⟨h, hall _ (by show (0 + l.val) % 128 = l.val; omega)⟩, hall _ (by show (128 + l.val) % 128 = l.val; omega)⟩, hall _ (by show (256 + l.val) % 128 = l.val; omega)⟩, hall _ (by show (384 + l.val) % 128 = l.val; omega)⟩, hall _ (by show (512 + l.val) % 128 = l.val; omega)⟩, hall _ (by show (640 + l.val) % 128 = l.val; omega)⟩, hall _ (by show (768 + l.val) % 128 = l.val; omega)⟩, hall _ (by show (896 + l.val) % 128 = l.val; omega)⟩

/-! ## The codes -/

theorem putCols_hit (q : FVec Ideal S512x1024 .fp8e4m3) (k : ℕ) (p : FVec Ideal S512x128 .fp8e4m3) (col : Fin 1024)
    (h1 : k ≤ col.val) (h2 : col.val < k + 128) : putCols (F := Ideal) q k p (ix2 r col) = p (ix2 r ⟨col.val - k, by omega⟩) := by
  unfold putCols VecWindow.put
  have h' : ∀ a, (![0, k] : Fin 2 → ℕ) a ≤ ((ix2 r col : S512x1024.Idx) a).val ∧ ((ix2 r col : S512x1024.Idx) a).val < (![0, k] : Fin 2 → ℕ) a + S512x128.size a := fun a => by
    match a with
    | ⟨0, _⟩ => exact ⟨Nat.zero_le _, by show r.val < 0 + 512; omega⟩
    | ⟨1, _⟩ => exact ⟨h1, h2⟩
  rw [dif_pos h']
  refine congrArg p (funext fun a => ?_)
  match a with
  | ⟨0, _⟩ => rfl
  | ⟨1, _⟩ => rfl

theorem putCols_miss (q : FVec Ideal S512x1024 .fp8e4m3) (k : ℕ) (p : FVec Ideal S512x128 .fp8e4m3) (col : Fin 1024)
    (h : col.val < k ∨ k + 128 ≤ col.val) : putCols (F := Ideal) q k p (ix2 r col) = q (ix2 r col) := by
  unfold putCols VecWindow.put
  rw [dif_neg]
  intro h'
  have := h' ⟨1, by decide⟩
  have h1 : k ≤ col.val := this.1
  have h2 : col.val < k + 128 := this.2
  omega

theorem slab_at (T : FVec Ideal S14x512x1024 .f32) (j : Fin 14) (k : ℕ) (hk : k + 128 ≤ 1024) :
    slab (F := Ideal) T j k hk (ix3 0 r l) = T (ix3 j r ⟨k + l, by omega⟩) := by
  unfold slab VecWindow.window
  refine congrArg T (funext fun a => Fin.ext ?_)
  match a with
  | ⟨0, _⟩ => show j.val + 1 * 0 = j.val; omega
  | ⟨1, _⟩ => show 0 + 1 * r.val = r.val; omega
  | ⟨2, _⟩ => show k + 1 * l.val = k + l.val; omega

theorem code0 (s : FVec Ideal S1x512x128 .f32) (mu : FVec Ideal S512x128 .f32) :
    k0_pay18 (F := Ideal) s mu (ix2 r l) = codeAt (s (ix3 0 r l)) (mu (ix2 r l)) := by
  pointwise [k0_pay18, codeAt]

theorem code1 (s : FVec Ideal S1x512x128 .f32) (mu : FVec Ideal S512x128 .f32) :
    k0_pay19 (F := Ideal) s mu (ix2 r l) = codeAt (s (ix3 0 r l)) (mu (ix2 r l)) := by
  pointwise [k0_pay19, codeAt]

theorem code2 (s : FVec Ideal S1x512x128 .f32) (mu : FVec Ideal S512x128 .f32) :
    k0_pay20 (F := Ideal) s mu (ix2 r l) = codeAt (s (ix3 0 r l)) (mu (ix2 r l)) := by
  pointwise [k0_pay20, codeAt]

theorem code3 (s : FVec Ideal S1x512x128 .f32) (mu : FVec Ideal S512x128 .f32) :
    k0_pay21 (F := Ideal) s mu (ix2 r l) = codeAt (s (ix3 0 r l)) (mu (ix2 r l)) := by
  pointwise [k0_pay21, codeAt]

theorem code4 (s : FVec Ideal S1x512x128 .f32) (mu : FVec Ideal S512x128 .f32) :
    k0_pay22 (F := Ideal) s mu (ix2 r l) = codeAt (s (ix3 0 r l)) (mu (ix2 r l)) := by
  pointwise [k0_pay22, codeAt]

theorem code5 (s : FVec Ideal S1x512x128 .f32) (mu : FVec Ideal S512x128 .f32) :
    k0_pay23 (F := Ideal) s mu (ix2 r l) = codeAt (s (ix3 0 r l)) (mu (ix2 r l)) := by
  pointwise [k0_pay23, codeAt]

theorem code6 (s : FVec Ideal S1x512x128 .f32) (mu : FVec Ideal S512x128 .f32) :
    k0_pay24 (F := Ideal) s mu (ix2 r l) = codeAt (s (ix3 0 r l)) (mu (ix2 r l)) := by
  pointwise [k0_pay24, codeAt]

theorem code7 (s : FVec Ideal S1x512x128 .f32) (mu : FVec Ideal S512x128 .f32) :
    k0_pay25 (F := Ideal) s mu (ix2 r l) = codeAt (s (ix3 0 r l)) (mu (ix2 r l)) := by
  pointwise [k0_pay25, codeAt]

/-- A code of tile `j`. -/
theorem codesOf_at (T : FVec Ideal S14x512x1024 .f32) (mu : FVec Ideal S512x128 .f32) (j : Fin 14) (q : FVec Ideal S512x1024 .fp8e4m3)
    (col : Fin 1024) : codesOf (F := Ideal) T mu j q (ix2 r col) = codeAt (T (ix3 j r col)) (mu (ix2 r ⟨col.val % 128, by omega⟩)) := by
  unfold codesOf
  have hcol := col.isLt
  have fin : ∀ (k : ℕ) (hk : k + 128 ≤ 1024) (h1 : k ≤ col.val) (h2 : col.val < k + 128) (hd : k % 128 = 0),
      codeAt (slab (F := Ideal) T j k hk (ix3 0 r ⟨col.val - k, by omega⟩)) (mu (ix2 r ⟨col.val - k, by omega⟩))
        = codeAt (T (ix3 j r col)) (mu (ix2 r ⟨col.val % 128, by omega⟩)) := fun k hk h1 h2 hd => by
    rw [slab_at]
    have e1 : (⟨k + (col.val - k), by omega⟩ : Fin 1024) = col := Fin.ext (by show k + (col.val - k) = col.val; omega)
    have e2 : (⟨col.val - k, by omega⟩ : Fin 128) = ⟨col.val % 128, by omega⟩ := Fin.ext (by show col.val - k = col.val % 128; omega)
    rw [e1, e2]
  by_cases h7 : 896 ≤ col.val
  · rw [putCols_hit _ _ _ _ _ (by omega) (by omega)]
    exact (code7 r _ _ mu).trans (fin 896 (by omega) (by omega) (by omega) (by omega))
  by_cases h6 : 768 ≤ col.val
  · rw [putCols_miss _ _ _ _ _ (by omega)]; rw [putCols_hit _ _ _ _ _ (by omega) (by omega)]
    exact (code6 r _ _ mu).trans (fin 768 (by omega) (by omega) (by omega) (by omega))
  by_cases h5 : 640 ≤ col.val
  · rw [putCols_miss _ _ _ _ _ (by omega)]; rw [putCols_miss _ _ _ _ _ (by omega)]; rw [putCols_hit _ _ _ _ _ (by omega) (by omega)]
    exact (code5 r _ _ mu).trans (fin 640 (by omega) (by omega) (by omega) (by omega))
  by_cases h4 : 512 ≤ col.val
  · rw [putCols_miss _ _ _ _ _ (by omega)]; rw [putCols_miss _ _ _ _ _ (by omega)]; rw [putCols_miss _ _ _ _ _ (by omega)]; rw [putCols_hit _ _ _ _ _ (by omega) (by omega)]
    exact (code4 r _ _ mu).trans (fin 512 (by omega) (by omega) (by omega) (by omega))
  by_cases h3 : 384 ≤ col.val
  · rw [putCols_miss _ _ _ _ _ (by omega)]; rw [putCols_miss _ _ _ _ _ (by omega)]; rw [putCols_miss _ _ _ _ _ (by omega)]; rw [putCols_miss _ _ _ _ _ (by omega)]; rw [putCols_hit _ _ _ _ _ (by omega) (by omega)]
    exact (code3 r _ _ mu).trans (fin 384 (by omega) (by omega) (by omega) (by omega))
  by_cases h2 : 256 ≤ col.val
  · rw [putCols_miss _ _ _ _ _ (by omega)]; rw [putCols_miss _ _ _ _ _ (by omega)]; rw [putCols_miss _ _ _ _ _ (by omega)]; rw [putCols_miss _ _ _ _ _ (by omega)]; rw [putCols_miss _ _ _ _ _ (by omega)]; rw [putCols_hit _ _ _ _ _ (by omega) (by omega)]
    exact (code2 r _ _ mu).trans (fin 256 (by omega) (by omega) (by omega) (by omega))
  by_cases h1 : 128 ≤ col.val
  · rw [putCols_miss _ _ _ _ _ (by omega)]; rw [putCols_miss _ _ _ _ _ (by omega)]; rw [putCols_miss _ _ _ _ _ (by omega)]; rw [putCols_miss _ _ _ _ _ (by omega)]; rw [putCols_miss _ _ _ _ _ (by omega)]; rw [putCols_miss _ _ _ _ _ (by omega)]; rw [putCols_hit _ _ _ _ _ (by omega) (by omega)]
    exact (code1 r _ _ mu).trans (fin 128 (by omega) (by omega) (by omega) (by omega))
  rw [putCols_miss _ _ _ _ _ (by omega)]; rw [putCols_miss _ _ _ _ _ (by omega)]; rw [putCols_miss _ _ _ _ _ (by omega)]; rw [putCols_miss _ _ _ _ _ (by omega)]; rw [putCols_miss _ _ _ _ _ (by omega)]; rw [putCols_miss _ _ _ _ _ (by omega)]; rw [putCols_miss _ _ _ _ _ (by omega)]; rw [putCols_hit _ _ _ _ _ (by omega) (by omega)]
  exact (code0 r _ _ mu).trans (fin 0 (by omega) (by omega) (by omega) (by omega))

/-! ## The scale and the multiplier -/

/-- The largest lane maximum of a row, times the two constants: what the exponent is taken of. -/
theorem pay11_at (mx : FVec Ideal S512x128 .f32) : k0_pay11 (F := Ideal) mx (ix2 r 0)
    = rowMax (fun l : Fin 128 => mx (ix2 r l)) * half * perMax := by
  pointwise [k0_pay11, named_half, rowMax, perMax]

/-- One comparison of the search, on a whole vector. -/
def vstep (v : FVec Ideal S512x1 .f32) (s : BitVec 32) (f : IVec S512x1 32) : IVec S512x1 32 :=
  select (cmpf .oge v (bitcastToFloat .f32 (shli (addi f (broadcast S512x1 s)) (broadcast S512x1 23#32)))) (addi f (broadcast S512x1 s)) f

theorem vstep_at (v : FVec Ideal S512x1 .f32) (s : BitVec 32) (f : IVec S512x1 32) (i : S512x1.Idx) :
    vstep v s f i = step (v i) s (f i) := rfl

theorem pay12_eq (mx : FVec Ideal S512x128 .f32) : k0_pay12 (F := Ideal) mx
    = vstep (k0_pay11 (F := Ideal) mx) 32#32 (vstep (k0_pay11 (F := Ideal) mx) 64#32 (vstep (k0_pay11 (F := Ideal) mx) 128#32 (broadcast S512x1 0#32))) := rfl

theorem pay15_eq (mx : FVec Ideal S512x128 .f32) :
    k0_pay15 (F := Ideal) (k0_pay11 mx) (k0_pay12 (F := Ideal) mx) (k0_pay13 (F := Ideal) mx) k0_pay14
    = vstep (k0_pay11 (F := Ideal) mx) 1#32 (vstep (k0_pay11 (F := Ideal) mx) 2#32 (vstep (k0_pay11 (F := Ideal) mx) 4#32
      (vstep (k0_pay11 (F := Ideal) mx) 8#32 (vstep (k0_pay11 (F := Ideal) mx) 16#32 (k0_pay12 (F := Ideal) mx))))) := rfl

theorem field_at (mx : FVec Ideal S512x128 .f32) (i : S512x1.Idx) :
    k0_pay15 (F := Ideal) (k0_pay11 mx) (k0_pay12 (F := Ideal) mx) (k0_pay13 (F := Ideal) mx) k0_pay14 i = field (k0_pay11 (F := Ideal) mx i) := by
  rw [pay15_eq, pay12_eq]
  simp only [vstep_at]
  rfl

/-- The exponent, which both the scale and the multiplier are made of. -/
theorem exp_at (mx : FVec Ideal S512x128 .f32) (i : S512x1.Idx) :
    k0_pay1 (k0_pay16 (F := Ideal) (k0_pay11 mx) (k0_pay12 (F := Ideal) mx) (k0_pay13 (F := Ideal) mx) k0_pay14)
      (k0_pay17 (F := Ideal) (k0_pay11 mx) (k0_pay12 (F := Ideal) mx) (k0_pay13 (F := Ideal) mx) k0_pay14) i
      = kernelExp (k0_pay11 (F := Ideal) mx i) := by
  unfold kernelExp
  rw [← field_at]
  rfl

theorem scale_at (mx : FVec Ideal S512x128 .f32) : scaleOf (F := Ideal) mx (ix2 r 0) = scaleWord (k0_pay11 (F := Ideal) mx (ix2 r 0)) := by
  unfold scaleOf scaleWord
  rw [← exp_at]
  rfl

theorem mul_at (mx : FVec Ideal S512x128 .f32) : mulOf (F := Ideal) mx (ix2 r l) = mulWord (k0_pay11 (F := Ideal) mx (ix2 r 0)) * half := by
  unfold mulOf mulWord
  rw [← exp_at]
  pointwise [k0_pay2, named_half]
  rfl

theorem lanes_at (xs : FVec Ideal S512x1 .f32) : k0_pay4 (F := Ideal) xs (ix2 r l) = xs (ix2 r 0) := by
  pointwise [k0_pay4]

theorem zero_at : k0_pay5 (F := Ideal) (ix2 r l) = 0 := by
  pointwise [k0_pay5]

end Cert.KernelIdeal.Body

end
-- ==== Proof.Track.lean ====
/- What the kernel's scratch buffers hold before each grid point, and how one point of the body changes it. -/
module

public import proofs.«01_k».proof.Proof.Gen.KernelIdeal.Frame
public import proofs.«01_k».proof.Proof.Gen.KernelIdeal.Skeleton
public import proofs.«01_k».proof.Proof.BodyAgree
public import Idealize.ShloMosaic.Lib.Tactic.Stretches

@[expose] public section

set_option maxRecDepth 16384

noncomputable section

namespace Cert.KernelIdeal.Track

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The grid point at row `i`, column `j` (rows run slowest, fourteen columns a row). -/
def pt (i j : ℕ) : Fin cfg0.N := ⟨(14 * i + j) % 98, Nat.lt_of_lt_of_eq (Nat.mod_lt _ (by omega)) N_0.symm⟩

theorem pt_eq (t : Fin cfg0.N) (i j : ℕ) (h : t.val = 14 * i + j) : pt i j = t := by
  have ht : t.val < 98 := Nat.lt_of_lt_of_eq t.isLt N_0
  exact Fin.ext (by show (14 * i + j) % 98 = t.val; omega)

/-! ## The input blocks at a grid point -/

/-- The activations' block, -/
def bx (c : Dev nD) (t : Fin cfg0.N) : Vec F S512x4096 .fp8e4m3 := iblk m c 0 t
/-- the activations' scales, -/
def bxs (c : Dev nD) (t : Fin cfg0.N) : Vec F S512x1 .f32 := iblk m c 1 t
/-- the weights' block, -/
def bw (c : Dev nD) (t : Fin cfg0.N) : Vec F S1024x4096 .fp8e4m3 := iblk m c 2 t
/-- the weights' scales -/
def bws (c : Dev nD) (t : Fin cfg0.N) : Vec F S1x1024 .f32 := iblk m c 3 t
/-- and the bias. -/
def bb (c : Dev nD) (t : Fin cfg0.N) : Vec F S1x1024 .bf16 := iblk m c 4 t

/-! ## What a whole row of tiles comes to -/

/-- The activation scales of row `i`, once per lane. -/
def lanes (c : Dev nD) (i : ℕ) : Vec F S512x128 .f32 := k0_pay4 (bxs m c (pt i 0))

/-- The fourteen tiles of row `i`. -/
def tileRow (c : Dev nD) (i : ℕ) : Vec F S14x512x1024 .f32 := fun ix =>
  tilesOf (bx m c (pt i (ix 0).val)) (lanes m c i) (bw m c (pt i (ix 0).val)) (bws m c (pt i (ix 0).val)) (bb m c (pt i (ix 0).val))
    (ix 0) (fun _ => FloatOps.ofBits .f32 0#32) ix

/-- The maximum per lane over the first `n` tiles of row `i`. -/
def maxTo (c : Dev nD) (i : ℕ) : ℕ → Vec F S512x128 .f32
  | 0 => k0_pay5
  | n + 1 => maxOf (bx m c (pt i n)) (lanes m c i) (bw m c (pt i n)) (bws m c (pt i n)) (bb m c (pt i n)) (maxTo c i n)

/-- The scales of row `i`, -/
def scaleRow (c : Dev nD) (i : ℕ) : Vec F S512x1 .f32 := scaleOf (maxTo m c i 14)

/-- its multipliers -/
def mulRow (c : Dev nD) (i : ℕ) : Vec F S512x128 .f32 := mulOf (maxTo m c i 14)

/-- and the codes of its tile `j`, written over `q`. -/
def codesRow (c : Dev nD) (i : ℕ) (j : Fin 14) (q : Vec F S512x1024 .fp8e4m3) : Vec F S512x1024 .fp8e4m3 :=
  codesOf (tileRow m c i) (mulRow m c i) j q

/-! ## The invariant -/

/-- Before column `j` of row `i`: the tiles to the left of `j` are row `i`'s, those from `j` on the previous row's; the running maximum is
    over the tiles done so far (at column `0`: the previous row's, complete); from column `1` on the lanes hold row `i`'s
    activation scales and the previous row's multiplier. -/
structure Inv (c : Dev nD) (i j : ℕ) (T : Vec F S14x512x1024 .f32) (xl mx mu : Vec F S512x128 .f32) : Prop where
  done : ∀ ix : S14x512x1024.Idx, (ix 0).val < j → i < 6 → T ix = tileRow m c i ix
  prev : ∀ ix : S14x512x1024.Idx, j ≤ (ix 0).val → 1 ≤ i → i ≤ 6 → T ix = tileRow m c (i - 1) ix
  lan : 1 ≤ j → i < 6 → xl = lanes m c i
  maxd : 1 ≤ j → i < 6 → mx = maxTo m c i j
  maxp : j = 0 → 1 ≤ i → i ≤ 6 → mx = maxTo m c (i - 1) 14
  mul : 1 ≤ j → 1 ≤ i → i ≤ 6 → mu = mulRow m c (i - 1)

variable {m} {c : Dev nD}

/-- At the start nothing is asked. -/
theorem Inv.start (T : Vec F S14x512x1024 .f32) (xl mx mu : Vec F S512x128 .f32) : Inv m c 0 0 T xl mx mu where
  done := fun ix h => absurd h (Nat.not_lt_zero _)
  prev := fun ix _ h => absurd h (by omega)
  lan := fun h => absurd h (by omega)
  maxd := fun h => absurd h (by omega)
  maxp := fun _ h => absurd h (by omega)
  mul := fun h => absurd h (by omega)

/-- After the last column comes the first of the next row. -/
theorem Inv.wrap {i : ℕ} {T : Vec F S14x512x1024 .f32} {xl mx mu : Vec F S512x128 .f32} (h : Inv m c i 14 T xl mx mu) :
    Inv m c (i + 1) 0 T xl mx mu where
  done := fun ix h => absurd h (Nat.not_lt_zero _)
  prev := fun ix _ _ hi => h.done ix (ix 0).isLt (by omega)
  lan := fun h => absurd h (by omega)
  maxd := fun h => absurd h (by omega)
  maxp := fun _ _ hi => h.maxd (by omega) (by omega)
  mul := fun h => absurd h (by omega)

variable {T : Vec F S14x512x1024 .f32} {xl mx mu : Vec F S512x128 .f32} {t : Fin cfg0.N} {i : ℕ} {j : Fin 14}

/-- The tiles after the body has computed tile `j`. -/
theorem tiles_step (hi : i < 6) (ht : t.val = 14 * i + j.val) (h : Inv m c i j.val T xl mx mu) :
    (∀ ix : S14x512x1024.Idx, (ix 0).val < j.val + 1 → i < 6 →
        tilesOf (bx m c t) (lanes m c i) (bw m c t) (bws m c t) (bb m c t) j T ix = tileRow m c i ix)
      ∧ (∀ ix : S14x512x1024.Idx, j.val + 1 ≤ (ix 0).val → 1 ≤ i → i ≤ 6 →
        tilesOf (bx m c t) (lanes m c i) (bw m c t) (bws m c t) (bb m c t) j T ix = tileRow m c (i - 1) ix) := by
  refine ⟨fun ix hx _ => ?_, fun ix hx h1 h6 => ?_⟩
  · rcases Nat.lt_succ_iff_lt_or_eq.mp hx with hlt | heq
    · rw [tilesOf_ne _ _ _ _ _ _ _ _ (Nat.ne_of_lt hlt)]; exact h.done ix hlt hi
    · have ej : ix 0 = j := Fin.ext heq
      rw [tilesOf_eq _ _ _ _ _ _ _ (fun _ => FloatOps.ofBits .f32 0#32) _ heq]
      unfold tileRow
      rw [pt_eq t i (ix 0).val (by omega), ej]
  · rw [tilesOf_ne _ _ _ _ _ _ _ _ (by omega)]; exact h.prev ix (by omega) h1 h6

/-- Column `0` of a row that computes. -/
theorem stepA (hi : i < 6) (hj : j.val = 0) (ht : t.val = 14 * i + j.val) (h : Inv m c i j.val T xl mx mu) :
    Inv m c i (j.val + 1) (tilesOf (bx m c t) (k0_pay4 (bxs m c t)) (bw m c t) (bws m c t) (bb m c t) j T) (k0_pay4 (bxs m c t))
      (maxOf (bx m c t) (k0_pay4 (bxs m c t)) (bw m c t) (bws m c t) (bb m c t) k0_pay5) (mulOf mx) := by
  have hp : pt i 0 = t := pt_eq t i 0 (by omega)
  have hl : k0_pay4 (bxs m c t) = lanes m c i := by unfold lanes; rw [hp]
  rw [hl]
  exact { done := (tiles_step hi ht h).1, prev := (tiles_step hi ht h).2, lan := fun _ _ => rfl
          maxd := fun _ _ => by rw [hj]; show _ = maxTo m c i (0 + 1); rw [maxTo, hp, maxTo]
          maxp := fun h0 => absurd h0 (by omega)
          mul := fun _ h1 h6 => by rw [h.maxp hj h1 h6]; rfl }

/-- A later column of a row that computes. -/
theorem stepB (hi : i < 6) (hj : 1 ≤ j.val) (ht : t.val = 14 * i + j.val) (h : Inv m c i j.val T xl mx mu) :
    Inv m c i (j.val + 1) (tilesOf (bx m c t) xl (bw m c t) (bws m c t) (bb m c t) j T) xl
      (maxOf (bx m c t) xl (bw m c t) (bws m c t) (bb m c t) mx) mu := by
  have hp : pt i j.val = t := pt_eq t i j.val ht
  have hl : xl = lanes m c i := h.lan hj hi
  have hm : mx = maxTo m c i j.val := h.maxd hj hi
  rw [hl, hm]
  rw [hl] at h
  exact { done := (tiles_step hi ht h).1, prev := (tiles_step hi ht h).2, lan := fun _ _ => rfl
          maxd := fun _ _ => by rw [maxTo, hp]
          maxp := fun h0 => absurd h0 (by omega)
          mul := fun _ h1 h6 => h.mul hj h1 h6 }

/-- Column `0` of the last row, which only quantises. -/
theorem stepC (hi : i = 6) (hj : j.val = 0) (h : Inv m c i j.val T xl mx mu) (xl' mx' : Vec F S512x128 .f32) :
    Inv m c i (j.val + 1) T xl' mx' (mulOf mx) where
  done := fun _ _ h6 => absurd h6 (by omega)
  prev := fun ix hx h1 h6 => h.prev ix (by omega) h1 h6
  lan := fun _ h6 => absurd h6 (by omega)
  maxd := fun _ h6 => absurd h6 (by omega)
  maxp := fun h0 => absurd h0 (by omega)
  mul := fun _ h1 h6 => by rw [h.maxp hj h1 h6]; rfl

/-- A later column of the last row. -/
theorem stepD (hi : i = 6) (hj : 1 ≤ j.val) (h : Inv m c i j.val T xl mx mu) :
    Inv m c i (j.val + 1) T xl mx mu where
  done := fun _ _ h6 => absurd h6 (by omega)
  prev := fun ix hx h1 h6 => h.prev ix (by omega) h1 h6
  lan := fun _ h6 => absurd h6 (by omega)
  maxd := fun _ h6 => absurd h6 (by omega)
  maxp := fun h0 => absurd h0 (by omega)
  mul := fun _ h1 h6 => h.mul hj h1 h6

/-- The codes written at column `0` are the previous row's. -/
theorem codes0 (hj : j.val = 0) (h1 : 1 ≤ i) (h6 : i ≤ 6) (h : Inv m c i j.val T xl mx mu) (q : Vec F S512x1024 .fp8e4m3) :
    codesOf T (mulOf mx) j q = codesRow m c (i - 1) j q := by
  unfold codesRow mulRow
  rw [h.maxp hj h1 h6]
  exact codesOf_congr _ _ _ _ _ fun ix hx => h.prev ix (by omega) h1 h6

/-- The codes written at a later column are the previous row's. -/
theorem codes1 (hj : 1 ≤ j.val) (h1 : 1 ≤ i) (h6 : i ≤ 6) (h : Inv m c i j.val T xl mx mu) (q : Vec F S512x1024 .fp8e4m3) :
    codesOf T mu j q = codesRow m c (i - 1) j q := by
  unfold codesRow
  rw [h.mul hj h1 h6]
  exact codesOf_congr _ _ _ _ _ fun ix hx => h.prev ix (by omega) h1 h6

/-- The scales written at column `0` are the previous row's. -/
theorem scale0 (hj : j.val = 0) (h1 : 1 ≤ i) (h6 : i ≤ 6) (h : Inv m c i j.val T xl mx mu) :
    scaleOf mx = scaleRow m c (i - 1) := by
  unfold scaleRow; rw [h.maxp hj h1 h6]

end Cert.KernelIdeal.Track

end
-- ==== Proof.Rows.lean ====
/- The rows of tiles, read over the whole argument arrays: every entry of the finished row of tiles is the kernel's activation at
   one row and one column of the arrays, the maximum per lane is over the columns of that lane, so the exponent of a row is taken
   of the maximum over the whole row. -/
module

public import proofs.«01_k».proof.Proof.Gen.KernelIdeal.Frame
public import proofs.«01_k».proof.Proof.BodyIdeal
public import proofs.«01_k».proof.Proof.Track
public import Idealize.ShloMosaic.Lib.Pipeline.ValueKit

@[expose] public section

set_option maxRecDepth 16384

noncomputable section

namespace Cert.KernelIdeal.Rows

open Cert.KernelIdeal Cert.KernelIdeal.Gen Cert.KernelIdeal.Body Cert.KernelIdeal.Track Cert.Quant
open Idealize.ShloMosaic Idealize.ShloMosaic.TcCoe Idealize.SL.Sem

variable (m : (ℓ : Loc nD τ sig) → Buf (Elt Ideal) ℓ) (c : Dev nD)

/-! ## The arrays and the blocks -/

/-- The activations. -/
def gX : FVec Ideal S3072x4096 .fp8e4m3 := V m c main_v0
/-- The activation scales. -/
def gXS : FVec Ideal S3072x1 .f32 := V m c main_v1
/-- The weights. -/
def gW : FVec Ideal S14336x4096 .fp8e4m3 := V m c main_arg2
/-- The weight scales. -/
def gWS : FVec Ideal S1x14336 .f32 := V m c main_v2
/-- The bias. -/
def gB : FVec Ideal S1x14336 .bf16 := V m c main_v3

/-- The block every window is at, at every grid point. -/
theorem idx : ∀ t : Fin cfg0.N, win0_0.index t = ![min (t.val / 14) 5, 0] ∧ win0_1.index t = ![min (t.val / 14) 5, 0]
    ∧ win0_2.index t = ![if t.val / 14 < 6 then t.val % 14 else 13, 0] ∧ win0_3.index t = ![0, t.val % 14] ∧ win0_4.index t = ![0, t.val % 14]
    ∧ win0_5.index t = ![t.val / 14 - 1, if 0 < t.val / 14 then t.val % 14 else 0] ∧ win0_6.index t = ![t.val / 14 - 1, 0] :=
  (by decide +kernel : ∀ t : Fin grid0.N, _)

section blocks
variable (t : Fin cfg0.N) (i : ℕ) (j : Fin 14) (hi : i < 6) (ht : t.val = 14 * i + j.val)
include hi ht

theorem bx_at (r : Fin 512) (k : Fin 4096) : bx m c t (ix2 r k) = gX m c (ix2 ⟨512 * i + r.val, by omega⟩ k) := by
  have h1 : t.val / 14 = i := by omega
  have h2 : min i 5 = i := by omega
  unfold bx gX
  blk_ext [iblk, (idx t).1, h1, h2]

theorem bxs_at (r : Fin 512) : bxs m c t (ix2 r 0) = gXS m c (ix2 ⟨512 * i + r.val, by omega⟩ 0) := by
  have h1 : t.val / 14 = i := by omega
  have h2 : min i 5 = i := by omega
  unfold bxs gXS
  blk_ext [iblk, (idx t).2.1, h1, h2]

theorem bw_at (q : Fin 1024) (k : Fin 4096) : bw m c t (ix2 q k) = gW m c (ix2 ⟨1024 * j.val + q.val, by omega⟩ k) := by
  have h1 : t.val / 14 < 6 := by omega
  have h2 : t.val % 14 = j.val := by omega
  unfold bw gW
  blk_ext [iblk, (idx t).2.2.1, if_pos h1, h2]

theorem bws_at (q : Fin 1024) : bws m c t (ix2 0 q) = gWS m c (ix2 0 ⟨1024 * j.val + q.val, by omega⟩) := by
  have h2 : t.val % 14 = j.val := by omega
  unfold bws gWS
  blk_ext [iblk, (idx t).2.2.2.1, h2]

theorem bb_at (q : Fin 1024) : bb m c t (ix2 0 q) = gB m c (ix2 0 ⟨1024 * j.val + q.val, by omega⟩) := by
  have h2 : t.val % 14 = j.val := by omega
  unfold bb gB
  blk_ext [iblk, (idx t).2.2.2.2.1, h2]

end blocks

/-! ## The entries of a row of tiles -/

/-- The contraction of row `R` of the activations with row `C` of the weights, times the activation scale. -/
def acc (R : Fin 3072) (C : Fin 14336) : EReal := (∑ k : Fin 4096, gX m c (ix2 R k) * gW m c (ix2 C k)) * gXS m c (ix2 R 0)

/-- The weight scale of a column. -/
def wsc (C : Fin 14336) : EReal := gWS m c (ix2 0 C)

/-- The bias of a column. -/
def bia (C : Fin 14336) : EReal := gB m c (ix2 0 C)

/-- The entry at row `R` and column `C`, as the kernel computes it. -/
def entry (R : Fin 3072) (C : Fin 14336) : EReal := act (acc m c R C * (wsc m c C * half) + bia m c C * half)

/-- An entry of a tile, from the reads it makes. -/
theorem tileAt_of (x : FVec Ideal S512x4096 .fp8e4m3) (xl : FVec Ideal S512x128 .f32) (w : FVec Ideal S1024x4096 .fp8e4m3)
    (ws : FVec Ideal S1x1024 .f32) (b : FVec Ideal S1x1024 .bf16) (r : Fin 512) (l : Fin 128) (q : Fin 1024)
    (X W : Fin 4096 → EReal) (L A B : EReal) (hx : ∀ k, x (ix2 r k) = X k) (hw : ∀ k, w (ix2 q k) = W k)
    (hl : xl (ix2 r l) = L) (hs : ws (ix2 0 q) = A) (hb : b (ix2 0 q) = B) :
    tileAt x xl w ws b r l q = act ((∑ k, X k * W k) * L * (A * half) + B * half) := by
  unfold tileAt
  simp only [hx, hw, hl, hs, hb]

/-- An entry of a row of tiles whose blocks depend on the tile's number. -/
theorem row_at (x : ℕ → FVec Ideal S512x4096 .fp8e4m3) (xl : FVec Ideal S512x128 .f32) (w : ℕ → FVec Ideal S1024x4096 .fp8e4m3)
    (ws : ℕ → FVec Ideal S1x1024 .f32) (b : ℕ → FVec Ideal S1x1024 .bf16) (T : FVec Ideal S14x512x1024 .f32)
    (j : Fin 14) (r : Fin 512) (q : Fin 1024) :
    (fun ix : S14x512x1024.Idx => tilesOf (F := Ideal) (x (ix 0).val) xl (w (ix 0).val) (ws (ix 0).val) (b (ix 0).val) (ix 0) T ix) (ix3 j r q)
      = tileAt (x j.val) xl (w j.val) (ws j.val) (b j.val) r ⟨q.val % 128, by omega⟩ q :=
  tilesOf_at (x j.val) xl (w j.val) (ws j.val) (b j.val) r j T q

section row
variable (i : ℕ) (hi : i < 6)
include hi

theorem pt_val (j : ℕ) (hj : j < 14) : (pt i j).val = 14 * i + j := by
  show (14 * i + j) % 98 = 14 * i + j
  omega

theorem lanes_row (r : Fin 512) (l : Fin 128) : lanes (F := Ideal) m c i (ix2 r l) = gXS m c (ix2 ⟨512 * i + r.val, by omega⟩ 0) := by
  unfold lanes
  rw [lanes_at]
  exact bxs_at m c (pt i 0) i 0 hi (pt_val i hi 0 (by omega)) r

theorem tile_row (j : Fin 14) (r : Fin 512) (l : Fin 128) (q : Fin 1024) :
    tileAt (bx m c (pt i j.val)) (lanes m c i) (bw m c (pt i j.val)) (bws m c (pt i j.val)) (bb m c (pt i j.val)) r l q
      = entry m c ⟨512 * i + r.val, by omega⟩ ⟨1024 * j.val + q.val, by omega⟩ := by
  have ht := pt_val i hi j.val j.isLt
  have h := tileAt_of (bx m c (pt i j.val)) (lanes m c i) (bw m c (pt i j.val)) (bws m c (pt i j.val)) (bb m c (pt i j.val)) r l q
    (fun k => gX m c (ix2 ⟨512 * i + r.val, by omega⟩ k)) (fun k => gW m c (ix2 ⟨1024 * j.val + q.val, by omega⟩ k)) _ _ _
    (fun k => bx_at m c (pt i j.val) i j hi ht r k) (fun k => bw_at m c (pt i j.val) i j hi ht q k)
    (lanes_row m c i hi r l) (bws_at m c (pt i j.val) i j hi ht q) (bb_at m c (pt i j.val) i j hi ht q)
  exact h

theorem tileRow_at (j : Fin 14) (r : Fin 512) (q : Fin 1024) :
    tileRow (F := Ideal) m c i (ix3 j r q) = entry m c ⟨512 * i + r.val, by omega⟩ ⟨1024 * j.val + q.val, by omega⟩ := by
  refine Eq.trans ?_ (tile_row m c i hi j r ⟨q.val % 128, Nat.mod_lt _ (by decide)⟩ q)
  unfold tileRow
  exact row_at (fun n => bx m c (pt i n)) (lanes m c i) (fun n => bw m c (pt i n)) (fun n => bws m c (pt i n)) (fun n => bb m c (pt i n))
    (fun _ => FloatOps.ofBits .f32 0#32) j r q

/-- A bound on the maximum per lane over the first `n` tiles. -/
theorem maxTo_le (r : Fin 512) (l : Fin 128) (B : EReal) (n : ℕ) (hn : n ≤ 14) :
    maxTo (F := Ideal) m c i n (ix2 r l) ≤ B
      ↔ 0 ≤ B ∧ ∀ C : Fin 14336, C.val < 1024 * n → C.val % 128 = l.val → absE (entry m c ⟨512 * i + r.val, by omega⟩ C) ≤ B := by
  induction n with
  | zero =>
    show k0_pay5 (F := Ideal) (ix2 r l) ≤ B ↔ _
    rw [zero_at]
    exact ⟨fun h => ⟨h, fun C hC => absurd hC (by omega)⟩, fun h => h.1⟩
  | succ n ih =>
    show maxOf (F := Ideal) _ _ _ _ _ (maxTo (F := Ideal) m c i n) (ix2 r l) ≤ B ↔ _
    rw [maxOf_le, ih (by omega)]
    have key := fun q : Fin 1024 => tile_row m c i hi ⟨n, by omega⟩ r l q
    simp only at key
    constructor
    · rintro ⟨⟨h0, h1⟩, h2⟩
      refine ⟨h0, fun C hC hl => ?_⟩
      by_cases hlt : C.val < 1024 * n
      · exact h1 C hlt hl
      · have h := h2 ⟨C.val - 1024 * n, by omega⟩ (by show (C.val - 1024 * n) % 128 = l.val; omega)
        rw [key] at h
        have e : (⟨1024 * n + (C.val - 1024 * n), by omega⟩ : Fin 14336) = C := Fin.ext (by show 1024 * n + (C.val - 1024 * n) = C.val; omega)
        simp only [e] at h
        exact h
    · rintro ⟨h0, h1⟩
      refine ⟨⟨h0, fun C hC hl => h1 C (by omega) hl⟩, fun q hq => ?_⟩
      rw [key]
      exact h1 _ (by show 1024 * n + q.val < 1024 * (n + 1); omega) (by show (1024 * n + q.val) % 128 = l.val; omega)

/-- The largest lane maximum of the finished row is the largest entry of the row. -/
theorem lanes_max (r : Fin 512) :
    rowMax (fun l : Fin 128 => maxTo (F := Ideal) m c i 14 (ix2 r l))
      = rowMax fun C : Fin 14336 => absE (entry m c ⟨512 * i + r.val, by omega⟩ C) := by
  refine eq_of_forall_ge_iff fun B => ?_
  rw [rowMax_le, rowMax_le]
  simp only [maxTo_le m c i hi r _ B 14 (by omega)]
  constructor
  · exact fun h C => (h ⟨C.val % 128, by omega⟩).2 C (by omega) rfl
  · exact fun h l => ⟨(absE_nonneg _).trans (h 0), fun C _ _ => h C⟩

/-- What the exponent of a row is taken of. -/
theorem arg_row (r : Fin 512) : k0_pay11 (F := Ideal) (maxTo (F := Ideal) m c i 14) (ix2 r 0)
    = rowMax (fun C : Fin 14336 => absE (entry m c ⟨512 * i + r.val, by omega⟩ C)) * half * perMax := by
  rw [pay11_at, lanes_max m c i hi]

end row

/-! ## The two results -/

/-- What the exponent of row `R` is taken of, in the reference's terms. -/
def arg (R : Fin 3072) : EReal := rowMax (fun C : Fin 14336 => absE (gelu (acc m c R C * wsc m c C + bia m c C))) * perMax

/-- The code at a row and a column, in the reference's terms. -/
def codeG (R : Fin 3072) (C : Fin 14336) : EReal :=
  codeAt (gelu (acc m c R C * wsc m c C + bia m c C)) (Ideal.exp2 (0 - refExp (arg m c R)))

/-- The scale of a row, in the reference's terms. -/
def scaleG (R : Fin 3072) : EReal := Ideal.exp2 (refExp (arg m c R))

/-- The scales the kernel stores for row block `i`. -/
theorem scaleRow_at (i : ℕ) (hi : i < 6) (r : Fin 512) : scaleRow (F := Ideal) m c i (ix2 r 0) = scaleG m c ⟨512 * i + r.val, by omega⟩ := by
  unfold scaleRow scaleG arg
  rw [scale_at, arg_row m c i hi]
  exact row_scale _ _ _

/-- The codes the kernel stores for tile `j` of row block `i`. -/
theorem codesRow_at (i : ℕ) (hi : i < 6) (j : Fin 14) (q : FVec Ideal S512x1024 .fp8e4m3) (r : Fin 512) (p : Fin 1024) :
    codesRow (F := Ideal) m c i j q (ix2 r p) = codeG m c ⟨512 * i + r.val, by omega⟩ ⟨1024 * j.val + p.val, by omega⟩ := by
  unfold codesRow mulRow codeG arg
  rw [codesOf_at, mul_at, tileRow_at m c i hi, arg_row m c i hi]
  exact row_code _ _ _ _

end Cert.KernelIdeal.Rows

end
-- ==== Proof.BodyRun.lean ====
/- The kernel body run at one grid point, in each of its four cases: what every buffer holds afterwards. -/
module

public import proofs.«01_k».proof.Proof.Gen.KernelIdeal.Frame
public import proofs.«01_k».proof.Proof.Gen.KernelIdeal.Skeleton
public import proofs.«01_k».proof.Proof.BodyVals
public import Idealize.ShloMosaic.Lib.VecWindow
public import Idealize.ShloMosaic.Lib.Tactic.Stretches

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offsets the body computes for its accesses to the tiles. -/
theorem off_eq (i : grid0.Coords) : k0_off1 i = slabOff (i 1) 0 ∧ k0_off2 i = slabOff (i 1) 128 ∧ k0_off3 i = slabOff (i 1) 256 ∧ k0_off4 i = slabOff (i 1) 384 ∧ k0_off5 i = slabOff (i 1) 512 ∧ k0_off6 i = slabOff (i 1) 640 ∧ k0_off7 i = slabOff (i 1) 768 ∧ k0_off8 i = slabOff (i 1) 896 ∧ k0_off9 i = slabOff (i 1) 0 ∧ k0_off10 i = slabOff (i 1) 128 ∧ k0_off11 i = slabOff (i 1) 256 ∧ k0_off12 i = slabOff (i 1) 384 ∧ k0_off13 i = slabOff (i 1) 512 ∧ k0_off14 i = slabOff (i 1) 640 ∧ k0_off15 i = slabOff (i 1) 768 ∧ k0_off16 i = slabOff (i 1) 896 := by
  have h : (Scalar.indexCast (BitVec.ofNat 32 (i 1).val) : BitVec 32).toNat = (i 1).val := by
    have hi : (i 1).val < 14 := (i 1).isLt
    show (BitVec.ofNat 32 (i 1).val).toNat = _
    rw [BitVec.toNat_ofNat]; omega
  refine ⟨?_, ?_, ?_, ?_, ?_, ?_, ?_, ?_, ?_, ?_, ?_, ?_, ?_, ?_, ?_, ?_⟩ <;> (funext a; fin_cases a <;> first | rfl | exact h)

theorem ld1 (M : Memref sig .tc .vmem S14x512x1024 .f32) (i : grid0.Coords) (f : M.view.ty.Contents (Elt F)) (inb : ∀ a, k0_off1 i a + S1x512x128.size a ≤ S14x512x1024.size a) :
    M.view.readAt (Elt F) (Rect.unit (s := S14x512x1024) (k0_off1 i) S1x512x128.size inb).toLoadRect f = slab (M.view.read (Elt F) f) (i 1) 0 :=
  View.readAt_unit M.view f inb (off_eq i).1 (slabOff_inb _ _ (by omega))
theorem ld2 (M : Memref sig .tc .vmem S14x512x1024 .f32) (i : grid0.Coords) (f : M.view.ty.Contents (Elt F)) (inb : ∀ a, k0_off2 i a + S1x512x128.size a ≤ S14x512x1024.size a) :
    M.view.readAt (Elt F) (Rect.unit (s := S14x512x1024) (k0_off2 i) S1x512x128.size inb).toLoadRect f = slab (M.view.read (Elt F) f) (i 1) 128 :=
  View.readAt_unit M.view f inb (off_eq i).2.1 (slabOff_inb _ _ (by omega))
theorem ld3 (M : Memref sig .tc .vmem S14x512x1024 .f32) (i : grid0.Coords) (f : M.view.ty.Contents (Elt F)) (inb : ∀ a, k0_off3 i a + S1x512x128.size a ≤ S14x512x1024.size a) :
    M.view.readAt (Elt F) (Rect.unit (s := S14x512x1024) (k0_off3 i) S1x512x128.size inb).toLoadRect f = slab (M.view.read (Elt F) f) (i 1) 256 :=
  View.readAt_unit M.view f inb (off_eq i).2.2.1 (slabOff_inb _ _ (by omega))
theorem ld4 (M : Memref sig .tc .vmem S14x512x1024 .f32) (i : grid0.Coords) (f : M.view.ty.Contents (Elt F)) (inb : ∀ a, k0_off4 i a + S1x512x128.size a ≤ S14x512x1024.size a) :
    M.view.readAt (Elt F) (Rect.unit (s := S14x512x1024) (k0_off4 i) S1x512x128.size inb).toLoadRect f = slab (M.view.read (Elt F) f) (i 1) 384 :=
  View.readAt_unit M.view f inb (off_eq i).2.2.2.1 (slabOff_inb _ _ (by omega))
theorem ld5 (M : Memref sig .tc .vmem S14x512x1024 .f32) (i : grid0.Coords) (f : M.view.ty.Contents (Elt F)) (inb : ∀ a, k0_off5 i a + S1x512x128.size a ≤ S14x512x1024.size a) :
    M.view.readAt (Elt F) (Rect.unit (s := S14x512x1024) (k0_off5 i) S1x512x128.size inb).toLoadRect f = slab (M.view.read (Elt F) f) (i 1) 512 :=
  View.readAt_unit M.view f inb (off_eq i).2.2.2.2.1 (slabOff_inb _ _ (by omega))
theorem ld6 (M : Memref sig .tc .vmem S14x512x1024 .f32) (i : grid0.Coords) (f : M.view.ty.Contents (Elt F)) (inb : ∀ a, k0_off6 i a + S1x512x128.size a ≤ S14x512x1024.size a) :
    M.view.readAt (Elt F) (Rect.unit (s := S14x512x1024) (k0_off6 i) S1x512x128.size inb).toLoadRect f = slab (M.view.read (Elt F) f) (i 1) 640 :=
  View.readAt_unit M.view f inb (off_eq i).2.2.2.2.2.1 (slabOff_inb _ _ (by omega))
theorem ld7 (M : Memref sig .tc .vmem S14x512x1024 .f32) (i : grid0.Coords) (f : M.view.ty.Contents (Elt F)) (inb : ∀ a, k0_off7 i a + S1x512x128.size a ≤ S14x512x1024.size a) :
    M.view.readAt (Elt F) (Rect.unit (s := S14x512x1024) (k0_off7 i) S1x512x128.size inb).toLoadRect f = slab (M.view.read (Elt F) f) (i 1) 768 :=
  View.readAt_unit M.view f inb (off_eq i).2.2.2.2.2.2.1 (slabOff_inb _ _ (by omega))
theorem ld8 (M : Memref sig .tc .vmem S14x512x1024 .f32) (i : grid0.Coords) (f : M.view.ty.Contents (Elt F)) (inb : ∀ a, k0_off8 i a + S1x512x128.size a ≤ S14x512x1024.size a) :
    M.view.readAt (Elt F) (Rect.unit (s := S14x512x1024) (k0_off8 i) S1x512x128.size inb).toLoadRect f = slab (M.view.read (Elt F) f) (i 1) 896 :=
  View.readAt_unit M.view f inb (off_eq i).2.2.2.2.2.2.2.1 (slabOff_inb _ _ (by omega))
theorem ld9 (M : Memref sig .tc .vmem S14x512x1024 .f32) (i : grid0.Coords) (f : M.view.ty.Contents (Elt F)) (inb : ∀ a, k0_off9 i a + S1x512x128.size a ≤ S14x512x1024.size a) :
    M.view.readAt (Elt F) (Rect.unit (s := S14x512x1024) (k0_off9 i) S1x512x128.size inb).toLoadRect f = slab (M.view.read (Elt F) f) (i 1) 0 :=
  View.readAt_unit M.view f inb (off_eq i).2.2.2.2.2.2.2.2.1 (slabOff_inb _ _ (by omega))
theorem ld10 (M : Memref sig .tc .vmem S14x512x1024 .f32) (i : grid0.Coords) (f : M.view.ty.Contents (Elt F)) (inb : ∀ a, k0_off10 i a + S1x512x128.size a ≤ S14x512x1024.size a) :
    M.view.readAt (Elt F) (Rect.unit (s := S14x512x1024) (k0_off10 i) S1x512x128.size inb).toLoadRect f = slab (M.view.read (Elt F) f) (i 1) 128 :=
  View.readAt_unit M.view f inb (off_eq i).2.2.2.2.2.2.2.2.2.1 (slabOff_inb _ _ (by omega))
theorem ld11 (M : Memref sig .tc .vmem S14x512x1024 .f32) (i : grid0.Coords) (f : M.view.ty.Contents (Elt F)) (inb : ∀ a, k0_off11 i a + S1x512x128.size a ≤ S14x512x1024.size a) :
    M.view.readAt (Elt F) (Rect.unit (s := S14x512x1024) (k0_off11 i) S1x512x128.size inb).toLoadRect f = slab (M.view.read (Elt F) f) (i 1) 256 :=
  View.readAt_unit M.view f inb (off_eq i).2.2.2.2.2.2.2.2.2.2.1 (slabOff_inb _ _ (by omega))
theorem ld12 (M : Memref sig .tc .vmem S14x512x1024 .f32) (i : grid0.Coords) (f : M.view.ty.Contents (Elt F)) (inb : ∀ a, k0_off12 i a + S1x512x128.size a ≤ S14x512x1024.size a) :
    M.view.readAt (Elt F) (Rect.unit (s := S14x512x1024) (k0_off12 i) S1x512x128.size inb).toLoadRect f = slab (M.view.read (Elt F) f) (i 1) 384 :=
  View.readAt_unit M.view f inb (off_eq i).2.2.2.2.2.2.2.2.2.2.2.1 (slabOff_inb _ _ (by omega))
theorem ld13 (M : Memref sig .tc .vmem S14x512x1024 .f32) (i : grid0.Coords) (f : M.view.ty.Contents (Elt F)) (inb : ∀ a, k0_off13 i a + S1x512x128.size a ≤ S14x512x1024.size a) :
    M.view.readAt (Elt F) (Rect.unit (s := S14x512x1024) (k0_off13 i) S1x512x128.size inb).toLoadRect f = slab (M.view.read (Elt F) f) (i 1) 512 :=
  View.readAt_unit M.view f inb (off_eq i).2.2.2.2.2.2.2.2.2.2.2.2.1 (slabOff_inb _ _ (by omega))
theorem ld14 (M : Memref sig .tc .vmem S14x512x1024 .f32) (i : grid0.Coords) (f : M.view.ty.Contents (Elt F)) (inb : ∀ a, k0_off14 i a + S1x512x128.size a ≤ S14x512x1024.size a) :
    M.view.readAt (Elt F) (Rect.unit (s := S14x512x1024) (k0_off14 i) S1x512x128.size inb).toLoadRect f = slab (M.view.read (Elt F) f) (i 1) 640 :=
  View.readAt_unit M.view f inb (off_eq i).2.2.2.2.2.2.2.2.2.2.2.2.2.1 (slabOff_inb _ _ (by omega))
theorem ld15 (M : Memref sig .tc .vmem S14x512x1024 .f32) (i : grid0.Coords) (f : M.view.ty.Contents (Elt F)) (inb : ∀ a, k0_off15 i a + S1x512x128.size a ≤ S14x512x1024.size a) :
    M.view.readAt (Elt F) (Rect.unit (s := S14x512x1024) (k0_off15 i) S1x512x128.size inb).toLoadRect f = slab (M.view.read (Elt F) f) (i 1) 768 :=
  View.readAt_unit M.view f inb (off_eq i).2.2.2.2.2.2.2.2.2.2.2.2.2.2.1 (slabOff_inb _ _ (by omega))
theorem ld16 (M : Memref sig .tc .vmem S14x512x1024 .f32) (i : grid0.Coords) (f : M.view.ty.Contents (Elt F)) (inb : ∀ a, k0_off16 i a + S1x512x128.size a ≤ S14x512x1024.size a) :
    M.view.readAt (Elt F) (Rect.unit (s := S14x512x1024) (k0_off16 i) S1x512x128.size inb).toLoadRect f = slab (M.view.read (Elt F) f) (i 1) 896 :=
  View.readAt_unit M.view f inb (off_eq i).2.2.2.2.2.2.2.2.2.2.2.2.2.2.2 (slabOff_inb _ _ (by omega))
theorem st1 (M : Memref sig .tc .vmem S14x512x1024 .f32) (i : grid0.Coords) (f : M.view.ty.Contents (Elt F)) (inb : ∀ a, k0_off1 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off1 i) S1x512x128.size inb, p⟩ :: L)) = putSlab (M.view.read (Elt F) (M.view.writes (Elt F) f L)) (i 1) 0 p :=
  View.read_writes_cons_put M.view f inb p L (off_eq i).1
theorem st2 (M : Memref sig .tc .vmem S14x512x1024 .f32) (i : grid0.Coords) (f : M.view.ty.Contents (Elt F)) (inb : ∀ a, k0_off2 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off2 i) S1x512x128.size inb, p⟩ :: L)) = putSlab (M.view.read (Elt F) (M.view.writes (Elt F) f L)) (i 1) 128 p :=
  View.read_writes_cons_put M.view f inb p L (off_eq i).2.1
theorem st3 (M : Memref sig .tc .vmem S14x512x1024 .f32) (i : grid0.Coords) (f : M.view.ty.Contents (Elt F)) (inb : ∀ a, k0_off3 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off3 i) S1x512x128.size inb, p⟩ :: L)) = putSlab (M.view.read (Elt F) (M.view.writes (Elt F) f L)) (i 1) 256 p :=
  View.read_writes_cons_put M.view f inb p L (off_eq i).2.2.1
theorem st4 (M : Memref sig .tc .vmem S14x512x1024 .f32) (i : grid0.Coords) (f : M.view.ty.Contents (Elt F)) (inb : ∀ a, k0_off4 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off4 i) S1x512x128.size inb, p⟩ :: L)) = putSlab (M.view.read (Elt F) (M.view.writes (Elt F) f L)) (i 1) 384 p :=
  View.read_writes_cons_put M.view f inb p L (off_eq i).2.2.2.1
theorem st5 (M : Memref sig .tc .vmem S14x512x1024 .f32) (i : grid0.Coords) (f : M.view.ty.Contents (Elt F)) (inb : ∀ a, k0_off5 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off5 i) S1x512x128.size inb, p⟩ :: L)) = putSlab (M.view.read (Elt F) (M.view.writes (Elt F) f L)) (i 1) 512 p :=
  View.read_writes_cons_put M.view f inb p L (off_eq i).2.2.2.2.1
theorem st6 (M : Memref sig .tc .vmem S14x512x1024 .f32) (i : grid0.Coords) (f : M.view.ty.Contents (Elt F)) (inb : ∀ a, k0_off6 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off6 i) S1x512x128.size inb, p⟩ :: L)) = putSlab (M.view.read (Elt F) (M.view.writes (Elt F) f L)) (i 1) 640 p :=
  View.read_writes_cons_put M.view f inb p L (off_eq i).2.2.2.2.2.1
theorem st7 (M : Memref sig .tc .vmem S14x512x1024 .f32) (i : grid0.Coords) (f : M.view.ty.Contents (Elt F)) (inb : ∀ a, k0_off7 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off7 i) S1x512x128.size inb, p⟩ :: L)) = putSlab (M.view.read (Elt F) (M.view.writes (Elt F) f L)) (i 1) 768 p :=
  View.read_writes_cons_put M.view f inb p L (off_eq i).2.2.2.2.2.2.1
theorem st8 (M : Memref sig .tc .vmem S14x512x1024 .f32) (i : grid0.Coords) (f : M.view.ty.Contents (Elt F)) (inb : ∀ a, k0_off8 i a + S1x512x128.size a ≤ S14x512x1024.size a) (p : Vec F S1x512x128 .f32) (L : List (View.Piece (Elt F) S14x512x1024 .f32)) :
    M.view.read (Elt F) (M.view.writes (Elt F) f (⟨Rect.unit (s := S14x512x1024) (k0_off8 i) S1x512x128.size inb, p⟩ :: L)) = putSlab (M.view.read (Elt F) (M.view.writes (Elt F) f L)) (i 1) 896 p :=
  View.read_writes_cons_put M.view f inb p L (off_eq i).2.2.2.2.2.2.2.1
theorem ldl1 (M : Memref sig .tc .vmem S14x512x1024 .f32) (i : grid0.Coords) (f : M.view.ty.Contents (Elt F)) (inb : ∀ a, k0_off1 i a + (![1, 512, 128] : Fin 3 → ℕ) a ≤ S14x512x1024.size a) :
    M.view.readAt (Elt F) (Rect.unit (s := S14x512x1024) (k0_off1 i) ![1, 512, 128] inb).toLoadRect f = slab (M.view.read (Elt F) f) (i 1) 0 :=
  ld1 M i f inb
theorem ldl2 (M : Memref sig .tc .vmem S14x512x1024 .f32) (i : grid0.Coords) (f : M.view.ty.Contents (Elt F)) (inb : ∀ a, k0_off2 i a + (![1, 512, 128] : Fin 3 → ℕ) a ≤ S14x512x1024.size a) :
    M.view.readAt (Elt F) (Rect.unit (s := S14x512x1024) (k0_off2 i) ![1, 512, 128] inb).toLoadRect f = slab (M.view.read (Elt F) f) (i 1) 128 :=
  ld2 M i f inb
theorem ldl3 (M : Memref sig .tc .vmem S14x512x1024 .f32) (i : grid0.Coords) (f : M.view.ty.Contents (Elt F)) (inb : ∀ a, k0_off3 i a + (![1, 512, 128] : Fin 3 → ℕ) a ≤ S14x512x1024.size a) :
    M.view.readAt (Elt F) (Rect.unit (s := S14x512x1024) (k0_off3 i) ![1, 512, 128] inb).toLoadRect f = slab (M.view.read (Elt F) f) (i 1) 256 :=
  ld3 M i f inb
theorem ldl4 (M : Memref sig .tc .vmem S14x512x1024 .f32) (i : grid0.Coords) (f : M.view.ty.Contents (Elt F)) (inb : ∀ a, k0_off4 i a + (![1, 512, 128] : Fin 3 → ℕ) a ≤ S14x512x1024.size a) :
    M.view.readAt (Elt F) (Rect.unit (s := S14x512x1024) (k0_off4 i) ![1, 512, 128] inb).toLoadRect f = slab (M.view.read (Elt F) f) (i 1) 384 :=
  ld4 M i f inb
theorem ldl5 (M : Memref sig .tc .vmem S14x512x1024 .f32) (i : grid0.Coords) (f : M.view.ty.Contents (Elt F)) (inb : ∀ a, k0_off5 i a + (![1, 512, 128] : Fin 3 → ℕ) a ≤ S14x512x1024.size a) :
    M.view.readAt (Elt F) (Rect.unit (s := S14x512x1024) (k0_off5 i) ![1, 512, 128] inb).toLoadRect f = slab (M.view.read (Elt F) f) (i 1) 512 :=
  ld5 M i f inb
theorem ldl6 (M : Memref sig .tc .vmem S14x512x1024 .f32) (i : grid0.Coords) (f : M.view.ty.Contents (Elt F)) (inb : ∀ a, k0_off6 i a + (![1, 512, 128] : Fin 3 → ℕ) a ≤ S14x512x1024.size a) :
    M.view.readAt (Elt F) (Rect.unit (s := S14x512x1024) (k0_off6 i) ![1, 512, 128] inb).toLoadRect f = slab (M.view.read (Elt F) f) (i 1) 640 :=
  ld6 M i f inb
theorem ldl7 (M : Memref sig .tc .vmem S14x512x1024 .f32) (i : grid0.Coords) (f : M.view.ty.Contents (Elt F)) (inb : ∀ a, k0_off7 i a + (![1, 512, 128] : Fin 3 → ℕ) a ≤ S14x512x1024.size a) :
    M.view.readAt (Elt F) (Rect.unit (s := S14x512x1024) (k0_off7 i) ![1, 512, 128] inb).toLoadRect f = slab (M.view.read (Elt F) f) (i 1) 768 :=
  ld7 M i f inb
theorem ldl8 (M : Memref sig .tc .vmem S14x512x1024 .f32) (i : grid0.Coords) (f : M.view.ty.Contents (Elt F)) (inb : ∀ a, k0_off8 i a + (![1, 512, 128] : Fin 3 → ℕ) a ≤ S14x512x1024.size a) :
    M.view.readAt (Elt F) (Rect.unit (s := S14x512x1024) (k0_off8 i) ![1, 512, 128] inb).toLoadRect f = slab (M.view.read (Elt F) f) (i 1) 896 :=
  ld8 M i f inb
theorem ldl9 (M : Memref sig .tc .vmem S14x512x1024 .f32) (i : grid0.Coords) (f : M.view.ty.Contents (Elt F)) (inb : ∀ a, k0_off9 i a + (![1, 512, 128] : Fin 3 → ℕ) a ≤ S14x512x1024.size a) :
    M.view.readAt (Elt F) (Rect.unit (s := S14x512x1024) (k0_off9 i) ![1, 512, 128] inb).toLoadRect f = slab (M.view.read (Elt F) f) (i 1) 0 :=
  ld9 M i f inb
theorem ldl10 (M : Memref sig .tc .vmem S14x512x1024 .f32) (i : grid0.Coords) (f : M.view.ty.Contents (Elt F)) (inb : ∀ a, k0_off10 i a + (![1, 512, 128] : Fin 3 → ℕ) a ≤ S14x512x1024.size a) :
    M.view.readAt (Elt F) (Rect.unit (s := S14x512x1024) (k0_off10 i) ![1, 512, 128] inb).toLoadRect f = slab (M.view.read (Elt F) f) (i 1) 128 :=
  ld10 M i f inb
theorem ldl11 (M : Memref sig .tc .vmem S14x512x1024 .f32) (i : grid0.Coords) (f : M.view.ty.Contents (Elt F)) (inb : ∀ a, k0_off11 i a + (![1, 512, 128] : Fin 3 → ℕ) a ≤ S14x512x1024.size a) :
    M.view.readAt (Elt F) (Rect.unit (s := S14x512x1024) (k0_off11 i) ![1, 512, 128] inb).toLoadRect f = slab (M.view.read (Elt F) f) (i 1) 256 :=
  ld11 M i f inb
theorem ldl12 (M : Memref sig .tc .vmem S14x512x1024 .f32) (i : grid0.Coords) (f : M.view.ty.Contents (Elt F)) (inb : ∀ a, k0_off12 i a + (![1, 512, 128] : Fin 3 → ℕ) a ≤ S14x512x1024.size a) :
    M.view.readAt (Elt F) (Rect.unit (s := S14x512x1024) (k0_off12 i) ![1, 512, 128] inb).toLoadRect f = slab (M.view.read (Elt F) f) (i 1) 384 :=
  ld12 M i f inb
theorem ldl13 (M : Memref sig .tc .vmem S14x512x1024 .f32) (i : grid0.Coords) (f : M.view.ty.Contents (Elt F)) (inb : ∀ a, k0_off13 i a + (![1, 512, 128] : Fin 3 → ℕ) a ≤ S14x512x1024.size a) :
    M.view.readAt (Elt F) (Rect.unit (s := S14x512x1024) (k0_off13 i) ![1, 512, 128] inb).toLoadRect f = slab (M.view.read (Elt F) f) (i 1) 512 :=
  ld13 M i f inb
theorem ldl14 (M : Memref sig .tc .vmem S14x512x1024 .f32) (i : grid0.Coords) (f : M.view.ty.Contents (Elt F)) (inb : ∀ a, k0_off14 i a + (![1, 512, 128] : Fin 3 → ℕ) a ≤ S14x512x1024.size a) :
    M.view.readAt (Elt F) (Rect.unit (s := S14x512x1024) (k0_off14 i) ![1, 512, 128] inb).toLoadRect f = slab (M.view.read (Elt F) f) (i 1) 640 :=
  ld14 M i f inb
theorem ldl15 (M : Memref sig .tc .vmem S14x512x1024 .f32) (i : grid0.Coords) (f : M.view.ty.Contents (Elt F)) (inb : ∀ a, k0_off15 i a + (![1, 512, 128] : Fin 3 → ℕ) a ≤ S14x512x1024.size a) :
    M.view.readAt (Elt F) (Rect.unit (s := S14x512x1024) (k0_off15 i) ![1, 512, 128] inb).toLoadRect f = slab (M.view.read (Elt F) f) (i 1) 768 :=
  ld15 M i f inb
theorem ldl16 (M : Memref sig .tc .vmem S14x512x1024 .f32) (i : grid0.Coords) (f : M.view.ty.Contents (Elt F)) (inb : ∀ a, k0_off16 i a + (![1, 512, 128] : Fin 3 → ℕ) a ≤ S14x512x1024.size a) :
    M.view.readAt (Elt F) (Rect.unit (s := S14x512x1024) (k0_off16 i) ![1, 512, 128] inb).toLoadRect f = slab (M.view.read (Elt F) f) (i 1) 896 :=
  ld16 M i f inb
theorem stl1 (M : Memref sig .tc .vmem S14x512x1024 .f32) (i : grid0.Coords) (f : M.view.ty.Contents (Elt F)) (inb : ∀ a, k0_off1 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off1 i) ![1, 512, 128] inb, p⟩ :: L)) = putSlab (M.view.read (Elt F) (M.view.writes (Elt F) f L)) (i 1) 0 p :=
  st1 M i f inb p L

theorem stl2 (M : Memref sig .tc .vmem S14x512x1024 .f32) (i : grid0.Coords) (f : M.view.ty.Contents (Elt F)) (inb : ∀ a, k0_off2 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off2 i) ![1, 512, 128] inb, p⟩ :: L)) = putSlab (M.view.read (Elt F) (M.view.writes (Elt F) f L)) (i 1) 128 p :=
  st2 M i f inb p L

theorem stl3 (M : Memref sig .tc .vmem S14x512x1024 .f32) (i : grid0.Coords) (f : M.view.ty.Contents (Elt F)) (inb : ∀ a, k0_off3 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off3 i) ![1, 512, 128] inb, p⟩ :: L)) = putSlab (M.view.read (Elt F) (M.view.writes (Elt F) f L)) (i 1) 256 p :=
  st3 M i f inb p L

theorem stl4 (M : Memref sig .tc .vmem S14x512x1024 .f32) (i : grid0.Coords) (f : M.view.ty.Contents (Elt F)) (inb : ∀ a, k0_off4 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off4 i) ![1, 512, 128] inb, p⟩ :: L)) = putSlab (M.view.read (Elt F) (M.view.writes (Elt F) f L)) (i 1) 384 p :=
  st4 M i f inb p L

theorem stl5 (M : Memref sig .tc .vmem S14x512x1024 .f32) (i : grid0.Coords) (f : M.view.ty.Contents (Elt F)) (inb : ∀ a, k0_off5 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off5 i) ![1, 512, 128] inb, p⟩ :: L)) = putSlab (M.view.read (Elt F) (M.view.writes (Elt F) f L)) (i 1) 512 p :=
  st5 M i f inb p L

theorem stl6 (M : Memref sig .tc .vmem S14x512x1024 .f32) (i : grid0.Coords) (f : M.view.ty.Contents (Elt F)) (inb : ∀ a, k0_off6 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off6 i) ![1, 512, 128] inb, p⟩ :: L)) = putSlab (M.view.read (Elt F) (M.view.writes (Elt F) f L)) (i 1) 640 p :=
  st6 M i f inb p L

theorem stl7 (M : Memref sig .tc .vmem S14x512x1024 .f32) (i : grid0.Coords) (f : M.view.ty.Contents (Elt F)) (inb : ∀ a, k0_off7 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off7 i) ![1, 512, 128] inb, p⟩ :: L)) = putSlab (M.view.read (Elt F) (M.view.writes (Elt F) f L)) (i 1) 768 p :=
  st7 M i f inb p L

theorem stl8 (M : Memref sig .tc .vmem S14x512x1024 .f32) (i : grid0.Coords) (f : M.view.ty.Contents (Elt F)) (inb : ∀ a, k0_off8 i a + (![1, 512, 128] : Fin 3 → ℕ) a ≤ S14x512x1024.size a) (p : Vec F S1x512x128 .f32) (L : List (View.Piece (Elt F) S14x512x1024 .f32)) :
    M.view.read (Elt F) (M.view.writes (Elt F) f (⟨Rect.unit (s := S14x512x1024) (k0_off8 i) ![1, 512, 128] inb, p⟩ :: L)) = putSlab (M.view.read (Elt F) (M.view.writes (Elt F) f L)) (i 1) 896 p :=
  st8 M i f inb p L

theorem stColsl (M : Memref sig .tc .vmem S512x1024 .fp8e4m3) (f : M.view.ty.Contents (Elt F)) (k : ℕ) (inb : ∀ a, (![0, k] : Fin 2 → ℕ) a + (![512, 128] : Fin 2 → ℕ) a ≤ S512x1024.size a) (p : Vec F S512x128 .fp8e4m3) (L : List (View.Piece (Elt F) S512x1024 .fp8e4m3)) :
    M.view.read (Elt F) (M.view.writes (Elt F) f (⟨Rect.unit (s := S512x1024) ![0, k] ![512, 128] inb, p⟩ :: L)) = putCols (M.view.read (Elt F) (M.view.writes (Elt F) f L)) k p :=
  View.read_writes_cons_put M.view f inb p L rfl

theorem ldLanes (M : Memref sig .tc .vmem S512x128 .f32) (f : M.view.ty.Contents (Elt F)) (inb : ∀ a, (![0, 0] : Fin 2 → ℕ) a + (![512, 128] : Fin 2 → ℕ) a ≤ S512x128.size a) :
    M.view.readAt (Elt F) (Rect.unit (s := S512x128) ![0, 0] ![512, 128] inb).toLoadRect f = M.view.read (Elt F) f :=
  View.readAt_full M.view f inb

theorem stLanes (M : Memref sig .tc .vmem S512x128 .f32) (f : M.view.ty.Contents (Elt F)) (inb : ∀ a, (![0, 0] : Fin 2 → ℕ) a + (![512, 128] : Fin 2 → ℕ) a ≤ S512x128.size a) (p : Vec F S512x128 .f32) (L : List (View.Piece (Elt F) S512x128 .f32)) :
    M.view.read (Elt F) (M.view.writes (Elt F) f (⟨Rect.unit (s := S512x128) ![0, 0] ![512, 128] inb, p⟩ :: L)) = p :=
  View.read_writes_full M.view f inb p L

theorem ldX (M : Memref sig .tc .vmem S512x4096 .fp8e4m3) (f : M.view.ty.Contents (Elt F)) (inb : ∀ a, (![0, 0] : Fin 2 → ℕ) a + (![512, 4096] : Fin 2 → ℕ) a ≤ S512x4096.size a) :
    M.view.readAt (Elt F) (Rect.unit (s := S512x4096) ![0, 0] ![512, 4096] inb).toLoadRect f = M.view.read (Elt F) f :=
  View.readAt_full M.view f inb

theorem ldXs (M : Memref sig .tc .vmem S512x1 .f32) (f : M.view.ty.Contents (Elt F)) (inb : ∀ a, (![0, 0] : Fin 2 → ℕ) a + (![512, 1] : Fin 2 → ℕ) a ≤ S512x1.size a) :
    M.view.readAt (Elt F) (Rect.unit (s := S512x1) ![0, 0] ![512, 1] inb).toLoadRect f = M.view.read (Elt F) f :=
  View.readAt_full M.view f inb

theorem ldW (M : Memref sig .tc .vmem S1024x4096 .fp8e4m3) (f : M.view.ty.Contents (Elt F)) (inb : ∀ a, (![0, 0] : Fin 2 → ℕ) a + (![1024, 4096] : Fin 2 → ℕ) a ≤ S1024x4096.size a) :
    M.view.readAt (Elt F) (Rect.unit (s := S1024x4096) ![0, 0] ![1024, 4096] inb).toLoadRect f = M.view.read (Elt F) f :=
  View.readAt_full M.view f inb

theorem ldWs (M : Memref sig .tc .vmem S1x1024 .f32) (f : M.view.ty.Contents (Elt F)) (inb : ∀ a, (![0, 0] : Fin 2 → ℕ) a + (![1, 1024] : Fin 2 → ℕ) a ≤ S1x1024.size a) :
    M.view.readAt (Elt F) (Rect.unit (s := S1x1024) ![0, 0] ![1, 1024] inb).toLoadRect f = M.view.read (Elt F) f :=
  View.readAt_full M.view f inb

theorem ldB (M : Memref sig .tc .vmem S1x1024 .bf16) (f : M.view.ty.Contents (Elt F)) (inb : ∀ a, (![0, 0] : Fin 2 → ℕ) a + (![1, 1024] : Fin 2 → ℕ) a ≤ S1x1024.size a) :
    M.view.readAt (Elt F) (Rect.unit (s := S1x1024) ![0, 0] ![1, 1024] inb).toLoadRect f = M.view.read (Elt F) f :=
  View.readAt_full M.view f inb

theorem covLanes (M : Memref sig .tc .vmem S512x128 .f32) (inb inb' : ∀ a, (![0, 0] : Fin 2 → ℕ) a + (![512, 128] : Fin 2 → ℕ) a ≤ S512x128.size a) (p : Vec F S512x128 .f32) (L : List (View.Piece (Elt F) S512x128 .f32)) :
    M.view.readCov (⟨Rect.unit (s := S512x128) ![0, 0] ![512, 128] inb', p⟩ :: L) (Rect.unit (s := S512x128) ![0, 0] ![512, 128] inb).toLoadRect = p :=
  View.readCov_full M.view inb inb' p L

theorem stScale (M : Memref sig .tc .vmem S512x1 .f32) (f : M.view.ty.Contents (Elt F)) (inb : ∀ a, (![0, 0] : Fin 2 → ℕ) a + (![512, 1] : Fin 2 → ℕ) a ≤ S512x1.size a) (p : Vec F S512x1 .f32) (L : List (View.Piece (Elt F) S512x1 .f32)) :
    M.view.read (Elt F) (M.view.writes (Elt F) f (⟨Rect.unit (s := S512x1) ![0, 0] ![512, 1] inb, p⟩ :: L)) = p :=
  View.read_writes_full M.view f inb p L

theorem stCols (M : Memref sig .tc .vmem S512x1024 .fp8e4m3) (f : M.view.ty.Contents (Elt F)) (k : ℕ) (inb : ∀ a, (![0, k] : Fin 2 → ℕ) a + S512x128.size a ≤ S512x1024.size a) (p : Vec F S512x128 .fp8e4m3) (L : List (View.Piece (Elt F) S512x1024 .fp8e4m3)) :
    M.view.read (Elt F) (M.view.writes (Elt F) f (⟨Rect.unit (s := S512x1024) ![0, k] S512x128.size inb, p⟩ :: L)) = putCols (M.view.read (Elt F) (M.view.writes (Elt F) f L)) k p :=
  View.read_writes_cons_put M.view f inb p L rfl

theorem pay50_eq : k0_pay50 (F := F) = k0_pay18 := rfl

theorem pay51_eq : k0_pay51 (F := F) = k0_pay19 := rfl

theorem pay52_eq : k0_pay52 (F := F) = k0_pay20 := rfl

theorem pay53_eq : k0_pay53 (F := F) = k0_pay21 := rfl

theorem pay54_eq : k0_pay54 (F := F) = k0_pay22 := rfl

theorem pay55_eq : k0_pay55 (F := F) = k0_pay23 := rfl

theorem pay9_eq : k0_pay9 (F := F) = k0_pay24 := rfl

theorem pay10_eq : k0_pay10 (F := F) = k0_pay25 := rfl

set_option maxHeartbeats 4000000 in
/-- The body at the first column of a row of tiles that is not the last: the finished row's multiplier and scale, then the codes of its tile `0`, then tile `0` anew. -/
theorem runA (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : k0_cond2 i = 1#1) (hc3 : ¬ k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T (mulOf mx) (i 1) q) ∗ owns (c : Thread nD τ) arg8 fullShare (scaleOf mx) ∗ owns (c : Thread nD τ) arg9 fullShare (tilesOf x (k0_pay4 xs) w ws b (i 1) T) ∗ owns (c : Thread nD τ) arg10 fullShare (k0_pay4 xs) ∗ owns (c : Thread nD τ) arg11 fullShare (maxOf x (k0_pay4 xs) w ws b k0_pay5) ∗ owns (c : Thread nD τ) arg12 fullShare (mulOf mx)) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf]
  isplitl [H8]
  · iexists _; isplitr; swap
    · iexact H8
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, scaleOf]
  isplitl [H9]
  · iexists _; isplitr; swap
    · iexact H9
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, tilesOf, Scalar.ofBits]
  isplitl [H10]
  · iexists _; isplitr; swap
    · iexact H10
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil]
  isplitl [H11]
  · iexists _; isplitr; swap
    · iexact H11
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, maxOf, Scalar.ofBits]
  iexists _; isplitr; swap
  · iexact H12
  ipureintro
  sl_open_run
  simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, mulOf]

set_option maxHeartbeats 4000000 in
/-- The body at a later column of such a row: the codes of the finished row's tile, then this tile anew. -/
theorem runB (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : k0_cond2 i = 1#1) (hc3 : ¬ k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T mu (i 1) q) ∗ owns (c : Thread nD τ) arg8 fullShare sc ∗ owns (c : Thread nD τ) arg9 fullShare (tilesOf x xl w ws b (i 1) T) ∗ owns (c : Thread nD τ) arg10 fullShare xl ∗ owns (c : Thread nD τ) arg11 fullShare (maxOf x xl w ws b mx) ∗ owns (c : Thread nD τ) arg12 fullShare mu) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf]
  isplitl [H8]
  · iexists f8; isplitr; · ipureintro; rfl
    iexact H8
  isplitl [H9]
  · iexists _; isplitr; swap
    · iexact H9
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, tilesOf, Scalar.ofBits]
  isplitl [H10]
  · iexists f10; isplitr; · ipureintro; rfl
    iexact H10
  isplitl [H11]
  · iexists _; isplitr; swap
    · iexact H11
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, maxOf, Scalar.ofBits]
  iexists f12; isplitr; · ipureintro; rfl
  iexact H12

set_option maxHeartbeats 4000000 in
/-- The body at the first column of the last row: the multiplier and the scale, then the codes of tile `0`. -/
theorem runC (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : ¬ k0_cond2 i = 1#1) (hc3 : k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T (mulOf mx) (i 1) q) ∗ owns (c : Thread nD τ) arg8 fullShare (scaleOf mx) ∗ owns (c : Thread nD τ) arg9 fullShare T ∗ owns (c : Thread nD τ) arg10 fullShare (k0_pay4 xs) ∗ owns (c : Thread nD τ) arg11 fullShare k0_pay5 ∗ owns (c : Thread nD τ) arg12 fullShare (mulOf mx)) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf, pay50_eq, pay51_eq, pay52_eq, pay53_eq, pay54_eq, pay55_eq, pay9_eq, pay10_eq]
  isplitl [H8]
  · iexists _; isplitr; swap
    · iexact H8
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, scaleOf]
  isplitl [H9]
  · iexists f9; isplitr; · ipureintro; rfl
    iexact H9
  isplitl [H10]
  · iexists _; isplitr; swap
    · iexact H10
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil]
  isplitl [H11]
  · iexists _; isplitr; swap
    · iexact H11
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, maxOf, Scalar.ofBits]
  iexists _; isplitr; swap
  · iexact H12
  ipureintro
  sl_open_run
  simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, mulOf]

set_option maxHeartbeats 4000000 in
/-- The body at a later column of the last row: the codes of its tile. -/
theorem runD (c : Dev nD) (E : Set ℕ) (i : grid0.Coords) (arg2 : Memref sig .tc .vmem S512x4096 .fp8e4m3) (harg2 : arg2.IsWhole) (arg3 : Memref sig .tc .vmem S512x1 .f32) (harg3 : arg3.IsWhole) (arg4 : Memref sig .tc .vmem S1024x4096 .fp8e4m3) (harg4 : arg4.IsWhole) (arg5 : Memref sig .tc .vmem S1x1024 .f32) (harg5 : arg5.IsWhole) (arg6 : Memref sig .tc .vmem S1x1024 .bf16) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S14x512x1024 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ k0_cond2 i = 1#1) (hc3 : k0_cond3 i = 1#1)
    (x : Vec F S512x4096 .fp8e4m3) (xs : Vec F S512x1 .f32) (w : Vec F S1024x4096 .fp8e4m3) (ws : Vec F S1x1024 .f32) (b : Vec F S1x1024 .bf16) (q : Vec F S512x1024 .fp8e4m3) (sc : Vec F S512x1 .f32) (T : Vec F S14x512x1024 .f32) (xl mx mu : Vec F S512x128 .f32) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare q ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare b ∗ owns (c : Thread nD τ) arg7 fullShare (codesOf T mu (i 1) q) ∗ owns (c : Thread nD τ) arg8 fullShare sc ∗ owns (c : Thread nD τ) arg9 fullShare T ∗ owns (c : Thread nD τ) arg10 fullShare xl ∗ owns (c : Thread nD τ) arg11 fullShare mx ∗ owns (c : Thread nD τ) arg12 fullShare mu) -∗ K ⟨⟩))
      ⊢ wp frame (wpE (defs₀ (F := F)) Variants.none c none) E (cc0_fp8_linear_gelu_quant i arg2 harg2 arg3 harg3 arg4 harg4 arg5 harg5 arg6 harg6 arg7 harg7 arg8 harg8 arg9 harg9 arg10 harg10 arg11 harg11 arg12 harg12) K := by
  simp only [cc0_fp8_linear_gelu_quant_eq_skeleton]; unfold cc0_fp8_linear_gelu_quant_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap
    · iexact H7
    ipureintro
    sl_open_run
    simp only [ldl1, ldl2, ldl3, ldl4, ldl5, ldl6, ldl7, ldl8, ldl9, ldl10, ldl11, ldl12, ldl13, ldl14, ldl15, ldl16, ldLanes, ldX, ldXs, ldW, ldWs, ldB, covLanes, stl1, stl2, stl3, stl4, stl5, stl6, stl7, stl8, stColsl, stLanes, stScale, View.writes_nil, codesOf, mulOf, pay50_eq, pay51_eq, pay52_eq, pay53_eq, pay54_eq, pay55_eq, pay9_eq, pay10_eq]
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.KernelIdeal.Body

end
-- ==== Proof.Run.lean ====
/- The kernel run over the grid: at every write-back the codes and the scales are the finished row's. -/
module

public import proofs.«01_k».proof.Proof.Gen.KernelIdeal.Frame
public import proofs.«01_k».proof.Proof.Gen.KernelIdeal.Skeleton
public import proofs.«01_k».proof.Proof.BodyRun
public import proofs.«01_k».proof.Proof.Track
public import Idealize.ShloMosaic.Lib.Pipeline.DatRel
public import Idealize.ShloMosaic.Lib.Tactic.Stretches

@[expose] public section

set_option maxRecDepth 16384

noncomputable section

namespace Cert.KernelIdeal.Track

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid, in numbers -/

theorem cond1_iff : ∀ t : Fin cfg0.N, k0_cond1 (grid0.coords t) = 1#1 ↔ t.val % 14 = 0 :=
  (by decide +kernel : ∀ t : Fin grid0.N, k0_cond1 (grid0.coords t) = 1#1 ↔ t.val % 14 = 0)
theorem cond2_iff : ∀ t : Fin cfg0.N, k0_cond2 (grid0.coords t) = 1#1 ↔ t.val / 14 < 6 :=
  (by decide +kernel : ∀ t : Fin grid0.N, k0_cond2 (grid0.coords t) = 1#1 ↔ t.val / 14 < 6)
theorem cond3_iff : ∀ t : Fin cfg0.N, k0_cond3 (grid0.coords t) = 1#1 ↔ t.val / 14 = 6 :=
  (by decide +kernel : ∀ t : Fin grid0.N, k0_cond3 (grid0.coords t) = 1#1 ↔ t.val / 14 = 6)
theorem coords_col : ∀ t : Fin cfg0.N, (grid0.coords t 1).val = t.val % 14 :=
  (by decide +kernel : ∀ t : Fin grid0.N, (grid0.coords t 1).val = t.val % 14)
/-- Window 6 (the scales) is written back only at the last column of a row. -/
theorem flush6_col : ∀ t : Fin cfg0.N, (cfg0.win 6).flush t = true → t.val % 14 = 13 :=
  (by decide +kernel : ∀ t : Fin grid0.N, win0_6.flush t = true → t.val % 14 = 13)

/-! ## The pipeline's proof data -/

/-- The invariant before point `t`: the scratch buffers hold what `Inv` says, the generator register anything. -/
def Phi (c : Dev nD) (t : Fin (cfg0.N + 1)) : sProp 𝕄 :=
  iprop(∃ T xl mx mu, ∃ r, ⌜Inv m c (t.val / 14) (t.val % 14) T xl mx mu⌝ ∗ owns (c : Thread nD τ) (Memref.whole cc0_scratch0) fullShare T
    ∗ owns (c : Thread nD τ) (Memref.whole cc0_scratch1) fullShare xl ∗ owns (c : Thread nD τ) (Memref.whole cc0_scratch2) fullShare mx
    ∗ owns (c : Thread nD τ) (Memref.whole cc0_scratch3) fullShare mu ∗ prngReg c r)

/-- The proof data: the arrays as the region finds them; each input's buffer at its block; the two outputs' buffers are held to the
    relation `Rel` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Phi m c t
  q _ := fullShare
  owed _ := 0

/-- The outputs, of which only a relation is said. -/
def outs : Fin cfg0.W → Bool := fun w => match w with
  | ⟨0, _⟩ => false | ⟨1, _⟩ => false | ⟨2, _⟩ => false | ⟨3, _⟩ => false | ⟨4, _⟩ => false | ⟨5, _⟩ => true | ⟨6, _⟩ => true

/-- From the second row on, the codes' buffer holds the previous row's codes of this column, the scales' buffer the previous row's
    scales. -/
def Rel (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => 14 ≤ t.val → ∃ q, X = codesRow m c (t.val / 14 - 1) (grid0.coords t 1) q
  | ⟨6, _⟩ => fun X => 14 ≤ t.val → X = scaleRow m c (t.val / 14 - 1)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The outputs' proof data, relationally. -/
abbrev rel (c : Dev nD) := (dats m 0 c).toRRel outs (Rel m c)

theorem leaves5 (c : Dev nD) (t : Fin cfg0.N) (X) (h : (rel m c).Leaves 5 t X) : 14 ≤ t.val → ∃ q, X = codesRow m c (t.val / 14 - 1) (grid0.coords t 1) q :=
  (dats m 0 c).toRRel_leaves (w := 5) rfl h
theorem leaves6 (c : Dev nD) (t : Fin cfg0.N) (X) (h : (rel m c).Leaves 6 t X) : 14 ≤ t.val → X = scaleRow m c (t.val / 14 - 1) :=
  (dats m 0 c).toRRel_leaves (w := 6) rfl h

variable {m} {c : Dev nD}

/-- Away from a row's first column the scales' buffer still holds what the first column wrote. -/
theorem finds_scale (t : Fin cfg0.N) (h0 : ¬ t.val % 14 = 0) (h14 : 14 ≤ t.val) (Y) (hY : (rel m c).Finds 6 t Y) : Y = scaleRow m c (t.val / 14 - 1) := by
  rw [(rel m c).finds_of_pos (w := 6) rfl (by omega)] at hY
  rcases hY with hf | hl
  · have := flush6_col _ hf
    simp only at this
    omega
  · rw [leaves6 m c _ Y hl (by show 14 ≤ t.val - 1; omega)]
    show scaleRow m c ((t.val - 1) / 14 - 1) = _
    rw [show (t.val - 1) / 14 = t.val / 14 by omega]

/-- From a column to the next, across the end of a row. -/
theorem inv_next (t : Fin cfg0.N) {T : Vec F S14x512x1024 .f32} {xl mx mu : Vec F S512x128 .f32}
    (h : Inv m c (t.val / 14) ((grid0.coords t 1).val + 1) T xl mx mu) : Inv m c (t.succ.val / 14) (t.succ.val % 14) T xl mx mu := by
  rw [coords_col t] at h
  rw [Fin.val_succ]
  rcases Nat.lt_or_ge (t.val % 14) 13 with h13 | h13
  · rw [show (t.val + 1) / 14 = t.val / 14 by omega, show (t.val + 1) % 14 = t.val % 14 + 1 by omega]; exact h
  · have e : t.val % 14 + 1 = 14 := by omega
    rw [e] at h
    rw [show (t.val + 1) / 14 = t.val / 14 + 1 by omega, show (t.val + 1) % 14 = 0 by omega]; exact h.wrap

variable (m) (c)

/-! ## The body obligation -/

/-- What the body is called with at point `t`, the windows one by one, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rel m c).Finds 5 t Y⌝ ∗ owns (c : Thread nD τ) (st0_5 t) fullShare Y)
    ∗ (∃ Y, ⌜(rel m c).Finds 6 t Y⌝ ∗ owns (c : Thread nD τ) (st0_6 t) fullShare Y))

/-- and what it returns. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rel m c 5 t X⌝ ∗ owns (c : Thread nD τ) (st0_5 t) fullShare X)
    ∗ (∃ X, ⌜Rel m c 6 t X⌝ ∗ owns (c : Thread nD τ) (st0_6 t) fullShare X))

set_option maxHeartbeats 1600000 in
/-- The body at any point, in its four cases. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Phi m c t.succ from rfl, show (dats m 0 c).Φ t.castSucc = Phi m c t.castSucc from rfl,
    show (dats m 0 c).owesAt () t.succ = (dats m 0 c).owesAt () t.castSucc from rfl,
    after0_0, after0_1, after0_2, after0_3, after0_4]
  unfold Phi
  iintro ⟨⟨%T, %xl, %mx, %mu, %r, %hI, S0, S1, S2, S3, HR⟩, Ho, ⟨%d0, H0⟩, ⟨%d1, H1⟩, ⟨%d2, H2⟩, ⟨%d3, H3⟩, ⟨%d4, H4⟩, ⟨%Y5, %hY5, H5⟩, ⟨%Y6, %hY6, H6⟩⟩
  have htN : t.val < 98 := Nat.lt_of_lt_of_eq t.isLt N_0
  have hcol := coords_col t
  rw [show (Fin.castSucc t).val = t.val from rfl, ← hcol] at hI
  have ht : t.val = 14 * (t.val / 14) + (grid0.coords t 1).val := by omega
  by_cases h0 : t.val % 14 = 0
  · have hj0 : (grid0.coords t 1).val = 0 := by omega
    by_cases h6 : t.val / 14 < 6
    · have e1 : k0_cond1 (grid0.coords t) = 1#1 := (cond1_iff t).mpr h0
      have e2 : k0_cond2 (grid0.coords t) = 1#1 := (cond2_iff t).mpr h6
      have e3 : ¬ k0_cond3 (grid0.coords t) = 1#1 := fun h => absurd ((cond3_iff t).mp h) (by omega)
      iapply (runA c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepA h6 hj0 ht hI)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes0 hj0 (by omega) (by omega) hI Y5⟩
      iexists _; isplitr; swap
      · iexact H6
      ipureintro
      exact fun h14 => scale0 hj0 (by omega) (by omega) hI
    · have hi6 : t.val / 14 = 6 := by omega
      have e1 : k0_cond1 (grid0.coords t) = 1#1 := (cond1_iff t).mpr h0
      have e2 : ¬ k0_cond2 (grid0.coords t) = 1#1 := fun h => h6 ((cond2_iff t).mp h)
      have e3 : k0_cond3 (grid0.coords t) = 1#1 := (cond3_iff t).mpr (by omega)
      iapply (runC c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepC hi6 hj0 hI (k0_pay4 (bxs m c t)) k0_pay5)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes0 hj0 (by omega) (by omega) hI Y5⟩
      iexists _; isplitr; swap
      · iexact H6
      ipureintro
      exact fun h14 => scale0 hj0 (by omega) (by omega) hI
  · have hj1 : 1 ≤ (grid0.coords t 1).val := by omega
    by_cases h6 : t.val / 14 < 6
    · have e1 : ¬ k0_cond1 (grid0.coords t) = 1#1 := fun h => h0 ((cond1_iff t).mp h)
      have e2 : k0_cond2 (grid0.coords t) = 1#1 := (cond2_iff t).mpr h6
      have e3 : ¬ k0_cond3 (grid0.coords t) = 1#1 := fun h => absurd ((cond3_iff t).mp h) (by omega)
      iapply (runB c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepB h6 hj1 ht hI)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes1 hj1 (by omega) (by omega) hI Y5⟩
      iexists _; isplitr; swap
      · iexact H6
      ipureintro
      exact fun h14 => finds_scale t h0 h14 Y6 hY6
    · have hi6 : t.val / 14 = 6 := by omega
      have e1 : ¬ k0_cond1 (grid0.coords t) = 1#1 := fun h => h0 ((cond1_iff t).mp h)
      have e2 : ¬ k0_cond2 (grid0.coords t) = 1#1 := fun h => h6 ((cond2_iff t).mp h)
      have e3 : k0_cond3 (grid0.coords t) = 1#1 := (cond3_iff t).mpr (by omega)
      iapply (runD c Set.univ (grid0.coords t) _ _ _ _ _ _ _ _ _ _ _ _ _ _ _ _ _ _ _ _ _ _ e1 e2 e3 (bx m c t) (bxs m c t) (bw m c t) (bws m c t) (bb m c t) Y5 Y6 T xl mx mu _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3 HR]
      · iexists _; iexists _; iexists _; iexists _; iexists r
        isplitr
        · ipureintro
          exact inv_next t (stepD hi6 hj1 hI)
        isplitl [S0]; · iexact S0
        isplitl [S1]; · iexact S1
        isplitl [S2]; · iexact S2
        isplitl [S3]; · iexact S3
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap
        · iexact H5
        ipureintro
        exact fun h14 => ⟨Y5, codes1 hj1 (by omega) (by omega) hI Y5⟩
      iexists _; isplitr; swap
      · iexact H6
      ipureintro
      exact fun h14 => finds_scale t h0 h14 Y6 hY6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation : Pipeline.BodyObligationRel (dats (F := F) m 0 c) (defs₀ (F := F)) Variants.none () Set.univ outs (Rel m c) := fun t => by
  rw [bigSep_W0, bigSep_W0, defs₀_row]
  exact triple_restated (sound_body m c t) rfl .rfl fun _ => .rfl

/-! ## The run -/

theorem phi_in : Pipeline.ΦA spec0 c ⊢ Phi m c 0 := by
  unfold Pipeline.ΦA Phi
  rw [scopedRest0_eq]
  iintro ⟨⟨⟨%f0, S0⟩, ⟨%f1, S1⟩, ⟨%f2, S2⟩, ⟨%f3, S3⟩⟩, ⟨%r, HR⟩⟩
  iexists f0; iexists f1; iexists f2; iexists f3; iexists r
  simp only [owns_whole]
  isplitr
  · ipureintro; exact Inv.start _ _ _ _
  isplitl [S0]; · iexact S0
  isplitl [S1]; · iexact S1
  isplitl [S2]; · iexact S2
  isplitl [S3]; · iexact S3
  iexact HR

theorem phi_out (t : Fin (cfg0.N + 1)) : Phi m c t ⊢ Pipeline.ΦA spec0 c := by
  unfold Pipeline.ΦA Phi
  rw [scopedRest0_eq]
  simp only [owns_whole]
  iintro ⟨%T, %xl, %mx, %mu, %r, %hI, S0, S1, S2, S3, HR⟩
  isplitl [S0 S1 S2 S3]
  · isplitl [S0]; · iexists _; iexact S0
    isplitl [S1]; · iexists _; iexact S1
    isplitl [S2]; · iexists _; iexact S2
    iexists _; iexact S3
  iexists _; iexact HR

set_option backward.isDefEq.respectTransparency.types false in
set_option maxHeartbeats 1600000 in
/-- Every weakly fair execution of @main ends with the arrays as the relation allows, every other unscoped buffer as the region found it
    and every semaphore counter at zero. -/
theorem run_main : θ_run defs (onTc (τ := τ) (main (F := F))) (s₀ m ρ)
    (fun r => Pipeline.RDat.FramePost cfg0 (fun c => rel m c) (V m) r ∧ r.2.sem = fun _ => 0) :=
  Pipeline.RDat.θ_run_frame_track (Q' := _) cfgs (0 : Fin 1) launch0 defs₀ Variants.none (fun c => rel m c) m ρ main
    (hbody := fun c => (body_obligation m c).toRRel) (hshare := fun c => (dats m 0 c).share_full fun _ => rfl)
    (howed := fun _ _ => rfl) (V := V m) (hmain := hmain m Variants.none) (hA := A_eq m)
    (hin := fun c => phi_in m c) (hout := fun c => phi_out m c _)

/-- The argument arrays end unchanged and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Track

end
-- ==== Proof.KernelArrays.lean ====
/- The two result arrays the kernel leaves, index by index: every block written back holds the codes of its tile, or the scales of
   its row block, and the blocks cover the arrays. -/
module

public import proofs.«01_k».proof.Proof.Rows
public import proofs.«01_k».proof.Proof.Run
public import Idealize.ShloMosaic.Lib.Pipeline.ArrRel

@[expose] public section

set_option maxRecDepth 16384

noncomputable section

namespace Cert.KernelIdeal.Arrays

open Cert.KernelIdeal Cert.KernelIdeal.Gen Cert.KernelIdeal.Body Cert.KernelIdeal.Track Cert.KernelIdeal.Rows Cert.Quant
open Idealize.ShloMosaic Idealize.ShloMosaic.TcCoe Idealize.ShloMosaic.Pipeline Idealize.SL.Sem

variable (m : (ℓ : Loc nD τ sig) → Buf (Elt Ideal) ℓ) (ρ : Dev nD → PrngReg)

/-- A block of codes is written back only after the first row of grid points. -/
theorem flush5_row : ∀ t : Fin cfg0.N, (cfg0.win 5).flush t = true → 14 ≤ t.val :=
  (by decide +kernel : ∀ t : Fin grid0.N, win0_5.flush t = true → 14 ≤ t.val)

/-- A block of scales is written back only after the first row of grid points. -/
theorem flush6_row : ∀ t : Fin cfg0.N, (cfg0.win 6).flush t = true → 14 ≤ t.val :=
  (by decide +kernel : ∀ t : Fin grid0.N, win0_6.flush t = true → 14 ≤ t.val)

/-- The codes, as an array. -/
def codes (c : Dev nD) : FVec Ideal S3072x14336 .fp8e4m3 := fun ix => codeG m c (ix 0) (ix 1)

/-- The scales, as an array. -/
def scales (c : Dev nD) : FVec Ideal S3072x1 .f32 := fun ix => scaleG m c (ix 0)

theorem codesRow_ix (c : Dev nD) (i : ℕ) (hi : i < 6) (j : Fin 14) (q : FVec Ideal S512x1024 .fp8e4m3) (y : S512x1024.Idx)
    (R : Fin 3072) (C : Fin 14336) (hR : R.val = 512 * i + (y 0).val) (hC : C.val = 1024 * j.val + (y 1).val) :
    codesRow (F := Ideal) m c i j q y = codeG m c R C := by
  have hy : y = ix2 (y 0) (y 1) := funext fun a => by
    match a with
    | ⟨0, _⟩ => rfl
    | ⟨1, _⟩ => rfl
  rw [hy]
  refine (codesRow_at m c i hi j q (y 0) (y 1)).trans ?_
  exact congrArg₂ (codeG m c) (Fin.ext hR.symm) (Fin.ext hC.symm)

theorem scaleRow_ix (c : Dev nD) (i : ℕ) (hi : i < 6) (y : S512x1.Idx) (R : Fin 3072) (hR : R.val = 512 * i + (y 0).val) :
    scaleRow (F := Ideal) m c i y = scaleG m c R := by
  have hy : y = ix2 (y 0) 0 := funext fun a => by
    match a with
    | ⟨0, _⟩ => rfl
    | ⟨1, _⟩ => exact Fin.ext (by have := (y 1).isLt; show (y 1).val = 0; change (y 1).val < 1 at this; omega)
  rw [hy]
  refine (scaleRow_at m c i hi (y 0)).trans ?_
  exact congrArg (scaleG m c) (Fin.ext hR.symm)

section arrays
variable (c : Dev nD) (after : (w' : Fin cfg0.W) → Fin cfg0.N → (cfg0.win w').block.Idx → Elt Ideal (cfg0.win w').elt)
  (hl : ∀ (w : Fin cfg0.W) (u : Fin cfg0.N), (cfg0.win w).flush u = true → (rel m c).Leaves w u (after w u))
include hl

/-- Whatever the body left in the blocks written back, the code array ends as `codes`. -/
theorem arr5 : ((rel m c).withAfter after).arrAt 5 cfg0.N = codes m c := by
  refine ((rel m c).withAfter after).arrAt_eq_of_covers 5 _ (by decide +kernel) fun t hf y => ?_
  have h14 := flush5_row t hf
  have htN : t.val < 98 := t.isLt
  obtain ⟨q, hq⟩ := leaves5 m c t _ (hl 5 t hf) h14
  rw [RDat.withAfter_after, hq]
  blk_simp
  refine codesRow_ix m c _ (by omega) _ q y _ _ ?_ ?_
  · blk_simp [(idx t).2.2.2.2.2.1]
    omega
  · have h0 : 0 < t.val / 14 := by omega
    blk_simp [(idx t).2.2.2.2.2.1, coords_col, if_pos h0]
    omega

/-- Whatever the body left in the blocks written back, the scale array ends as `scales`. -/
theorem arr6 : ((rel m c).withAfter after).arrAt 6 cfg0.N = scales m c := by
  refine ((rel m c).withAfter after).arrAt_eq_of_covers 6 _ (by decide +kernel) fun t hf y => ?_
  have h14 := flush6_row t hf
  have htN : t.val < 98 := t.isLt
  have hq := leaves6 m c t _ (hl 6 t hf) h14
  rw [RDat.withAfter_after, hq]
  blk_simp
  refine scaleRow_ix m c _ (by omega) y _ ?_
  blk_simp [(idx t).2.2.2.2.2.2]
  omega

end arrays

/-- Every run of the kernel ends with `codes` and `scales` in the two results and the arguments unchanged. -/
theorem run : θ_run defs (onTc (τ := τ) (main (F := Ideal))) ⟨m, fun _ => 0, ρ⟩ (fun r => ∀ c : Dev nD,
      r.2.mem ((c.tc : Thread nD τ).loc main_v4_0) = codes m c
      ∧ r.2.mem ((c.tc : Thread nD τ).loc main_v4_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨after, hl, hA⟩ := h.1.exists_exact c
    exact ⟨(hA 5).trans (arr5 m c after hl), (hA 6).trans (arr6 m c after hl),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.KernelIdeal.Arrays

end
-- ==== Proof.ReferenceValue.lean ====
/- What the reference computes, index by index: the plain formula of a code and of a scale over the five argument arrays, and the two
   result arrays of a run as those formulas. -/
module

public import proofs.«01_k».proof.Proof.Gen.ReferenceIdeal.Frame
public import proofs.«01_k».proof.Proof.Gen.ReferenceIdeal.Value
public import proofs.«01_k».proof.Proof.Gelu
public import Idealize.ShloMosaic.Lib.Pipeline.ValueKit

@[expose] public section

set_option maxRecDepth 16384

noncomputable section

namespace Cert.ReferenceIdeal.Formula

open Cert.ReferenceIdeal Cert.ReferenceIdeal.Gen Cert.Quant
open Idealize.ShloMosaic Idealize.ShloMosaic.TcCoe Idealize.SL.Sem

/-! ## The formulas -/

section formulas
variable (P0 : FVec Ideal S3072x4096 .fp8e4m3) (P1 : FVec Ideal S14336x4096 .fp8e4m3) (P2 : FVec Ideal S3072x1 .f32)
  (P3 : FVec Ideal S1x14336 .f32) (P4 : FVec Ideal S1x14336 .bf16)

/-- The GELU of the scaled contraction plus the bias, at a row and a column. -/
def geluF (R : Fin 3072) (C : Fin 14336) : EReal :=
  gelu ((∑ k : Fin 4096, P0 (ix2 R k) * P1 (ix2 C k)) * P2 (ix2 R 0) * P3 (ix2 0 C) + P4 (ix2 0 C))

/-- What the exponent of a row is taken of. -/
def argF (R : Fin 3072) : EReal := rowMax (fun C : Fin 14336 => absE (geluF P0 P1 P2 P3 P4 R C)) * perMax

/-- The code at a row and a column. -/
def codeF (R : Fin 3072) (C : Fin 14336) : EReal := codeAt (geluF P0 P1 P2 P3 P4 R C) (Ideal.exp2 (0 - refExp (argF P0 P1 P2 P3 P4 R)))

/-- The scale of a row. -/
def scaleF (R : Fin 3072) : EReal := Ideal.exp2 (refExp (argF P0 P1 P2 P3 P4 R))

/-! ## The body's values -/

theorem named_half : (Named.named κ "sqrt_half" (φ := .f32) 0x3F3504F3#32 : Ideal .f32) = half :=
  IdealRules.named_const.ideal_named_scalar _ _ _ _ rfl

theorem named_ln2 : (Named.named κ "ln_2" (φ := .f32) 0x3F317218#32 : Ideal .f32) = ((Real.log 2 : ℝ) : EReal) :=
  IdealRules.named_const.ideal_named_scalar _ _ _ _ rfl

theorem erf_eq (x : Ideal .f32) : FloatOps.erf x = Ideal.erf x := rfl
theorem abs_eq (x : Ideal .f32) : FloatOps.absf x = absE x := rfl
theorem exp2_eq (x : Ideal .f32) : FloatOps.exp2 x = Ideal.exp2 x := rfl
theorem log_eq (x : Ideal .f32) : FloatOps.log x = Ideal.log x := rfl
theorem floor_eq (x : Ideal .f32) : FloatOps.floor x = Ideal.liftRound Int.floor x := rfl

theorem pay4_at (R : Fin 3072) (C : Fin 14336) : k0_pay4 (F := Ideal) P0 P1 P2 P3 P4 (ix2 R C) = geluF P0 P1 P2 P3 P4 R C := by
  pointwise [k0_pay4, geluF, gelu, named_half]
  rw [erf_eq]

/-- A row maximum, at any extents. -/
theorem red_at {n0 n1 : ℕ} (h : (⟨2, ![n0, n1]⟩ : Shape).Reduces [1] ⟨1, ![n0]⟩) (hφ : FKind.Formats .f32)
    (hacc : 0xFF800000#32 = FKind.maximumf.neutral .f32 hφ) (v : FVec Ideal ⟨2, ![n0, n1]⟩ .f32) (R : Fin n0) :
    multiReduction .maximumf [1] ⟨1, ![n0]⟩ v 0xFF800000#32 h hφ hacc (ix1 R) = rowMax fun C : Fin n1 => v (ix2 R C) := by
  unfold rowMax
  pointwise

theorem abs_row (g : FVec Ideal S3072x14336 .f32) (R : Fin 3072) :
    multiReduction .maximumf [1] S3072 (absf g) 0xFF800000#32 reduces_S3072x14336_S3072 (.inl rfl) rfl (ix1 R)
      = rowMax fun C : Fin 14336 => absE (g (ix2 R C)) :=
  (red_at (n0 := 3072) (n1 := 14336) reduces_S3072x14336_S3072 (.inl rfl) rfl (absf g) R).trans
    (congrArg rowMax (funext fun C => rfl))

theorem times_at (v : FVec Ideal S3072 .f32) (R : Fin 3072) :
    mulf (shapeCast S3072x1 v shapeCasts_S3072_S3072x1) (broadcast S3072x1 (Scalar.ofBits (F := Ideal) .f32 0x3B124925#32)) (ix2 R 0)
      = v (ix1 R) * perMax := by
  unfold perMax
  pointwise

/-- What the exponent is taken of, in the body. -/
theorem pay5_at (R : Fin 3072) : k0_pay5 (F := Ideal) P0 P1 P2 P3 P4 (ix2 R 0) = argF P0 P1 P2 P3 P4 R := by
  unfold k0_pay5 argF
  refine (times_at _ R).trans ?_
  rw [abs_row]
  simp only [pay4_at]

/-- The exponent of a vector of arguments. -/
theorem exponent_of (v : FVec Ideal S3072x1 .f32) (i : S3072x1.Idx) :
    k0_pay1 (F := Ideal)
      (addf (floor (divf (log v) (broadcast S3072x1 (Named.named κ "ln_2" 0x3F317218#32)))) (broadcast S3072x1 (Scalar.ofBits .f32 0x3F800000#32)))
      (cmpf .oge v (broadcast S3072x1 (Scalar.ofBits .f32 0x00800000#32))) (cmpf .olt v (broadcast S3072x1 (Scalar.ofBits .f32 0x7E800000#32))) i
      = refExp (v i) := by
  unfold refExp
  pointwise [k0_pay1, named_ln2]
  try rfl

theorem pay1_at (R : Fin 3072) : k0_pay1 (F := Ideal) (k0_pay6 (F := Ideal) P0 P1 P2 P3 P4) (k0_pay7 (F := Ideal) P0 P1 P2 P3 P4)
    (k0_pay8 (F := Ideal) P0 P1 P2 P3 P4) (ix2 R 0) = refExp (argF P0 P1 P2 P3 P4 R) := by
  unfold k0_pay6 k0_pay7 k0_pay8
  rw [← pay5_at]
  exact exponent_of (k0_pay5 (F := Ideal) P0 P1 P2 P3 P4) (ix2 R 0)

theorem code_of (g : FVec Ideal S3072x14336 .f32) (e : FVec Ideal S3072x1 .f32) (a b : IVec S3072x1 1) (R : Fin 3072) (C : Fin 14336) :
    k0_pay2 (F := Ideal) g e a b (ix2 R C) = codeAt (g (ix2 R C)) (Ideal.exp2 (0 - k0_pay1 (F := Ideal) e a b (ix2 R 0))) := by
  unfold codeAt
  pointwise [k0_pay2]
  try rw [exp2_eq]

theorem code_at (R : Fin 3072) (C : Fin 14336) :
    k0_pay2 (F := Ideal) (k0_pay4 (F := Ideal) P0 P1 P2 P3 P4) (k0_pay6 (F := Ideal) P0 P1 P2 P3 P4) (k0_pay7 (F := Ideal) P0 P1 P2 P3 P4)
      (k0_pay8 (F := Ideal) P0 P1 P2 P3 P4) (ix2 R C) = codeF P0 P1 P2 P3 P4 R C := by
  rw [code_of, pay1_at, pay4_at]
  unfold codeF
  with_reducible rfl

theorem scale_of (e : FVec Ideal S3072x1 .f32) (a b : IVec S3072x1 1) (i : S3072x1.Idx) :
    k0_pay3 (F := Ideal) e a b i = Ideal.exp2 (k0_pay1 (F := Ideal) e a b i) := rfl

theorem scale_at (R : Fin 3072) :
    k0_pay3 (F := Ideal) (k0_pay6 (F := Ideal) P0 P1 P2 P3 P4) (k0_pay7 (F := Ideal) P0 P1 P2 P3 P4) (k0_pay8 (F := Ideal) P0 P1 P2 P3 P4) (ix2 R 0)
      = scaleF P0 P1 P2 P3 P4 R := by
  rw [scale_of, pay1_at]
  unfold scaleF
  with_reducible rfl

end formulas

/-! ## The arrays after a run -/

variable (m : (ℓ : Loc nD τ sig) → Buf (Elt Ideal) ℓ) (ρ : Dev nD → PrngReg)

/-- The activations. -/
def gX (c : Dev nD) : FVec Ideal S3072x4096 .fp8e4m3 := V m c main_v0
/-- The activation scales. -/
def gXS (c : Dev nD) : FVec Ideal S3072x1 .f32 := V m c main_v1
/-- The weights. -/
def gW (c : Dev nD) : FVec Ideal S14336x4096 .fp8e4m3 := V m c main_arg2
/-- The weight scales. -/
def gWS (c : Dev nD) : FVec Ideal S1x14336 .f32 := V m c main_v2
/-- The bias. -/
def gB (c : Dev nD) : FVec Ideal S1x14336 .bf16 := V m c main_v3

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk0 (c : Dev nD) (t : Fin cfg0.N) : iblk m c 0 t = gX m c := by unfold gX; blk_ext! [iblk, idx t]
theorem blk1 (c : Dev nD) (t : Fin cfg0.N) : iblk m c 1 t = gXS m c := by unfold gXS; blk_ext! [iblk, idx t]
theorem blk2 (c : Dev nD) (t : Fin cfg0.N) : iblk m c 2 t = gW m c := by unfold gW; blk_ext! [iblk, idx t]
theorem blk3 (c : Dev nD) (t : Fin cfg0.N) : iblk m c 3 t = gWS m c := by unfold gWS; blk_ext! [iblk, idx t]
theorem blk4 (c : Dev nD) (t : Fin cfg0.N) : iblk m c 4 t = gB m c := by unfold gB; blk_ext! [iblk, idx t]

/-- The codes, as an array. -/
def codes (c : Dev nD) : FVec Ideal S3072x14336 .fp8e4m3 := fun ix => codeF (gX m c) (gW m c) (gXS m c) (gWS m c) (gB m c) (ix 0) (ix 1)

/-- The scales, as an array. -/
def scales (c : Dev nD) : FVec Ideal S3072x1 .f32 := fun ix => scaleF (gX m c) (gW m c) (gXS m c) (gWS m c) (gB m c) (ix 0)

theorem ix_eq (y : S3072x14336.Idx) : y = ix2 (y 0) (y 1) := funext fun a => by
  match a with
  | ⟨0, _⟩ => rfl
  | ⟨1, _⟩ => rfl

theorem ix_eq' (y : S3072x1.Idx) : y = ix2 (y 0) 0 := funext fun a => by
  match a with
  | ⟨0, _⟩ => rfl
  | ⟨1, _⟩ => exact Fin.ext (by have := (y 1).isLt; show (y 1).val = 0; change (y 1).val < 1 at this; omega)

theorem codes_eq (P0 : FVec Ideal S3072x4096 .fp8e4m3) (P1 : FVec Ideal S14336x4096 .fp8e4m3) (P2 : FVec Ideal S3072x1 .f32)
    (P3 : FVec Ideal S1x14336 .f32) (P4 : FVec Ideal S1x14336 .bf16) (y z : S3072x14336.Idx) (h : y = z) :
    k0_pay2 (F := Ideal) (k0_pay4 (F := Ideal) P0 P1 P2 P3 P4) (k0_pay6 (F := Ideal) P0 P1 P2 P3 P4) (k0_pay7 (F := Ideal) P0 P1 P2 P3 P4)
      (k0_pay8 (F := Ideal) P0 P1 P2 P3 P4) y = codeF P0 P1 P2 P3 P4 (z 0) (z 1) := by
  subst h
  exact (congrArg _ (ix_eq y)).trans (code_at P0 P1 P2 P3 P4 (y 0) (y 1))

theorem scales_eq (P0 : FVec Ideal S3072x4096 .fp8e4m3) (P1 : FVec Ideal S14336x4096 .fp8e4m3) (P2 : FVec Ideal S3072x1 .f32)
    (P3 : FVec Ideal S1x14336 .f32) (P4 : FVec Ideal S1x14336 .bf16) (y z : S3072x1.Idx) (h : y = z) :
    k0_pay3 (F := Ideal) (k0_pay6 (F := Ideal) P0 P1 P2 P3 P4) (k0_pay7 (F := Ideal) P0 P1 P2 P3 P4) (k0_pay8 (F := Ideal) P0 P1 P2 P3 P4) y
      = scaleF P0 P1 P2 P3 P4 (z 0) := by
  subst h
  exact (congrArg _ (ix_eq' y)).trans (scale_at P0 P1 P2 P3 P4 (y 0))

theorem out5_at (x0 : FVec Ideal S3072x4096 .fp8e4m3) (x1 : FVec Ideal S3072x1 .f32) (x2 : FVec Ideal S14336x4096 .fp8e4m3)
    (x3 : FVec Ideal S1x14336 .f32) (x4 : FVec Ideal S1x14336 .bf16) (y z : S3072x14336.Idx) (h : y = z) :
    out0_5 (F := Ideal) x0 x1 x2 x3 x4 y = codeF x0 x2 x1 x3 x4 (z 0) (z 1) := by
  frame_out
  unfold k0_pay9 k0_pay10 k0_pay11
  frame_out
  exact codes_eq x0 x2 x1 x3 x4 y z h

theorem out6_at (x0 : FVec Ideal S3072x4096 .fp8e4m3) (x1 : FVec Ideal S3072x1 .f32) (x2 : FVec Ideal S14336x4096 .fp8e4m3)
    (x3 : FVec Ideal S1x14336 .f32) (x4 : FVec Ideal S1x14336 .bf16) (y z : S3072x1.Idx) (h : y = z) :
    out0_6 (F := Ideal) x0 x1 x2 x3 x4 y = scaleF x0 x2 x1 x3 x4 (z 0) := by
  frame_out
  unfold k0_pay9 k0_pay10 k0_pay11
  frame_out
  exact scales_eq x0 x2 x1 x3 x4 y z h

theorem after5 (c : Dev nD) (t : Fin cfg0.N) (y z : S3072x14336.Idx) (h : y = z) : (dats m 0 c).after 5 t y = codes m c z := by
  have e : (dats m 0 c).after 5 t = out0_5 (F := Ideal) (gX m c) (gXS m c) (gW m c) (gWS m c) (gB m c) := by
    rw [after0_5, blk0, blk1, blk2, blk3, blk4]
  rw [e, out5_at _ _ _ _ _ y z h]
  unfold codes
  with_reducible rfl

theorem after6 (c : Dev nD) (t : Fin cfg0.N) (y z : S3072x1.Idx) (h : y = z) : (dats m 0 c).after 6 t y = scales m c z := by
  have e : (dats m 0 c).after 6 t = out0_6 (F := Ideal) (gX m c) (gXS m c) (gW m c) (gWS m c) (gB m c) := by
    rw [after0_6, blk0, blk1, blk2, blk3, blk4]
  rw [e, out6_at _ _ _ _ _ y z h]
  unfold scales
  with_reducible rfl

theorem arr5 (c : Dev nD) : (dats m 0 c).arrAt 5 cfg0.N = codes m c := by
  refine (dats m 0 c).arrAt_eq_of_covers 5 _ (by decide +kernel) fun t hf y => ?_
  blk_simp
  refine after5 m c t _ _ ?_
  blk_ext [idx t]

theorem arr6 (c : Dev nD) : (dats m 0 c).arrAt 6 cfg0.N = scales m c := by
  refine (dats m 0 c).arrAt_eq_of_covers 6 _ (by decide +kernel) fun t hf y => ?_
  blk_simp
  refine after6 m c t _ _ ?_
  blk_ext [idx t]

end Cert.ReferenceIdeal.Formula

end
-- ==== Proof.Algebraic.lean ====
/- The two programs leave the same results: the arrays each finds at its region are the same reshapes of the same arguments, the formulas
   over them are the same. -/
module

public import proofs.«01_k».proof.Proof.KernelArrays
public import proofs.«01_k».proof.Proof.ReferenceValue
public import Idealize.ShloMosaic.Lib.Claim

@[expose] public section

set_option maxRecDepth 16384

noncomputable section

namespace Cert.KernelIdeal.Entry

open Cert.KernelIdeal Cert.KernelIdeal.Gen
open Idealize.ShloMosaic Idealize.ShloMosaic.TcCoe Idealize.SL.Sem

variable (m : (ℓ : Loc nD τ sig) → Buf (Elt Ideal) ℓ) (c : Dev nD)

theorem v0 : Rows.gX m c = shapeCast S3072x4096 (m ((c.tc : Thread nD τ).loc main_arg0)) shapeCasts_S1x3072x4096_S3072x4096 := by
  unfold Rows.gX; entry_read; rfl
theorem v1 : Rows.gXS m c = shapeCast S3072x1 (m ((c.tc : Thread nD τ).loc main_arg1)) shapeCasts_S1x3072x1_S3072x1 := by
  unfold Rows.gXS; entry_read; rfl
theorem v2 : Rows.gWS m c = shapeCast S1x14336 (m ((c.tc : Thread nD τ).loc main_arg3)) shapeCasts_S14336_S1x14336 := by
  unfold Rows.gWS; entry_read; rfl
theorem v3 : Rows.gB m c = shapeCast S1x14336 (m ((c.tc : Thread nD τ).loc main_arg4)) shapeCasts_S14336_S1x14336 := by
  unfold Rows.gB; entry_read; rfl

end Cert.KernelIdeal.Entry

namespace Cert.ReferenceIdeal.Entry

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

theorem v0 : Formula.gX m c = shapeCast S3072x4096 (m ((c.tc : Thread nD τ).loc main_arg0)) shapeCasts_S1x3072x4096_S3072x4096 := by
  unfold Formula.gX; entry_read; rfl
theorem v1 : Formula.gXS m c = shapeCast S3072x1 (m ((c.tc : Thread nD τ).loc main_arg1)) shapeCasts_S1x3072x1_S3072x1 := by
  unfold Formula.gXS; entry_read; rfl
theorem v2 : Formula.gWS m c = shapeCast S1x14336 (m ((c.tc : Thread nD τ).loc main_arg3)) shapeCasts_S14336_S1x14336 := by
  unfold Formula.gWS; entry_read; rfl
theorem v3 : Formula.gB m c = shapeCast S1x14336 (m ((c.tc : Thread nD τ).loc main_arg4)) shapeCasts_S14336_S1x14336 := by
  unfold Formula.gB; entry_read; rfl

end Cert.ReferenceIdeal.Entry

namespace Cert.Same

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h0 in
theorem x_eq : Cert.ReferenceIdeal.Formula.gX m' c = Cert.KernelIdeal.Rows.gX m c := by
  rw [Cert.ReferenceIdeal.Entry.v0, Cert.KernelIdeal.Entry.v0, h0]
include h1 in
theorem xs_eq : Cert.ReferenceIdeal.Formula.gXS m' c = Cert.KernelIdeal.Rows.gXS m c := by
  rw [Cert.ReferenceIdeal.Entry.v1, Cert.KernelIdeal.Entry.v1, h1]
include h2 in
theorem w_eq : Cert.ReferenceIdeal.Formula.gW m' c = Cert.KernelIdeal.Rows.gW m c :=
  (Cert.ReferenceIdeal.Gen.V_main_arg2 m' c).trans (h2.trans (Cert.KernelIdeal.Gen.V_main_arg2 m c).symm)
include h3 in
theorem ws_eq : Cert.ReferenceIdeal.Formula.gWS m' c = Cert.KernelIdeal.Rows.gWS m c := by
  rw [Cert.ReferenceIdeal.Entry.v2, Cert.KernelIdeal.Entry.v2, h3]
include h4 in
theorem b_eq : Cert.ReferenceIdeal.Formula.gB m' c = Cert.KernelIdeal.Rows.gB m c := by
  rw [Cert.ReferenceIdeal.Entry.v3, Cert.KernelIdeal.Entry.v3, h4]

/-- The kernel's code is the reference's formula over the kernel's arrays. -/
theorem code_formula (R : Fin 3072) (C : Fin 14336) : Cert.KernelIdeal.Rows.codeG m c R C
    = Cert.ReferenceIdeal.Formula.codeF (Cert.KernelIdeal.Rows.gX m c) (Cert.KernelIdeal.Rows.gW m c) (Cert.KernelIdeal.Rows.gXS m c)
        (Cert.KernelIdeal.Rows.gWS m c) (Cert.KernelIdeal.Rows.gB m c) R C := by
  unfold Cert.KernelIdeal.Rows.codeG Cert.KernelIdeal.Rows.arg Cert.KernelIdeal.Rows.acc Cert.KernelIdeal.Rows.wsc Cert.KernelIdeal.Rows.bia
    Cert.ReferenceIdeal.Formula.codeF Cert.ReferenceIdeal.Formula.argF Cert.ReferenceIdeal.Formula.geluF
  with_reducible rfl

/-- The kernel's scale is the reference's formula over the kernel's arrays. -/
theorem scale_formula (R : Fin 3072) : Cert.KernelIdeal.Rows.scaleG m c R
    = Cert.ReferenceIdeal.Formula.scaleF (Cert.KernelIdeal.Rows.gX m c) (Cert.KernelIdeal.Rows.gW m c) (Cert.KernelIdeal.Rows.gXS m c)
        (Cert.KernelIdeal.Rows.gWS m c) (Cert.KernelIdeal.Rows.gB m c) R := by
  unfold Cert.KernelIdeal.Rows.scaleG Cert.KernelIdeal.Rows.arg Cert.KernelIdeal.Rows.acc Cert.KernelIdeal.Rows.wsc Cert.KernelIdeal.Rows.bia
    Cert.ReferenceIdeal.Formula.scaleF Cert.ReferenceIdeal.Formula.argF Cert.ReferenceIdeal.Formula.geluF
  with_reducible rfl

include h0 h1 h2 h3 h4 in
/-- The codes agree. -/
theorem codes_eq : Cert.ReferenceIdeal.Formula.codes m' c = Cert.KernelIdeal.Arrays.codes m c := by
  unfold Cert.ReferenceIdeal.Formula.codes Cert.KernelIdeal.Arrays.codes
  rw [x_eq m m' c h0, xs_eq m m' c h1, w_eq m m' c h2, ws_eq m m' c h3, b_eq m m' c h4]
  exact funext fun ix => (code_formula m c (ix 0) (ix 1)).symm

include h0 h1 h2 h3 h4 in
/-- The scales agree. -/
theorem scales_eq : Cert.ReferenceIdeal.Formula.scales m' c = Cert.KernelIdeal.Arrays.scales m c := by
  unfold Cert.ReferenceIdeal.Formula.scales Cert.KernelIdeal.Arrays.scales
  rw [x_eq m m' c h0, xs_eq m m' c h1, w_eq m m' c h2, ws_eq m m' c h3, b_eq m m' c h4]
  exact funext fun ix => (scale_formula m c (ix 0)).symm

end Cert.Same

end
-- ==== Proof.lean ====
module

public import proofs.«01_k».proof.Proof.Gen.ReferenceIdeal.Value
public import proofs.«01_k».proof.Defs
public import proofs.«01_k».proof.Proof.KernelRun
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Run from the same arguments, the idealized kernel and the reference leave the same codes and the same scales. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Arrays.codes m c, fun c => Cert.KernelIdeal.Arrays.scales m c, Cert.KernelIdeal.Arrays.run m g, ?_⟩
  refine (θ_run _ _ _).mono (fun r hr c => ?_) (Cert.ReferenceIdeal.Value.run_blocks (F := Ideal) m' g')
  obtain ⟨h0, h1, h2, h3, h4⟩ := h c
  obtain ⟨r5, r6, hargs⟩ := hr c
  exact ⟨r5.trans ((Cert.ReferenceIdeal.Formula.arr5 m' c).trans (Cert.Same.codes_eq m m' c h0 h1 h2 h3 h4)),
    r6.trans ((Cert.ReferenceIdeal.Formula.arr6 m' c).trans (Cert.Same.scales_eq m m' c h0 h1 h2 h3 h4)), hargs⟩

theorem claim : Cert.Claim := ⟨Cert.Kernel.Gen.facts, Cert.KernelIdeal.Gen.facts, Cert.ReferenceIdeal.Gen.facts,
  fun m g _ => Cert.Kernel.Track.frame m g,
  fun m g _ => Cert.KernelIdeal.Track.frame m g,
  fun m g _ => Cert.ReferenceIdeal.Gen.frame m g,
  IdealRules.named_const.statement Cert.KernelIdeal.κ "sqrt_half" .f32 0x3F3504F3#32 _ rfl,
  algebraic⟩

end Cert.Proof

end
